-- ==== Defs.lean ====
def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantReferenceIdeal (m : (ℓ : Loc Cert.QuantReferenceIdeal.nD Cert.QuantReferenceIdeal.τ Cert.QuantReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3))
      ∧ r.2.sem = fun _ => 0)

def preserves_Quant_QuantIdeal : Prop :=
  True

def algebraic_QuantIdeal_QuantReferenceIdeal [hQuantIdeal : Cert.QuantIdeal.Facts] [hQuantReferenceIdeal : Cert.QuantReferenceIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)) →
    ∃ (v0 : (c : Dev Cert.QuantIdeal.nD) → Buf (Elt Ideal) ((c.tc : Thread Cert.QuantIdeal.nD Cert.QuantIdeal.τ).loc Cert.QuantIdeal.main_v0_0)) (v1 : (c : Dev Cert.QuantIdeal.nD) → Buf (Elt Ideal) ((c.tc : Thread Cert.QuantIdeal.nD Cert.QuantIdeal.τ).loc Cert.QuantIdeal.main_v0_1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_0) = v0 c
          ∧ r.2.mem ((c.tc : Thread Cert.QuantIdeal.nD Cert.QuantIdeal.τ).loc Cert.QuantIdeal.main_v0_1) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v0_0) = v0 c
          ∧ r.2.mem ((c.tc : Thread Cert.QuantReferenceIdeal.nD Cert.QuantReferenceIdeal.τ).loc Cert.QuantReferenceIdeal.main_v0_1) = v1 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v0_1)) (v1 : (c : Dev Cert.GateUpIdeal.nD) → Buf (Elt Ideal) ((c.tc : Thread Cert.GateUpIdeal.nD Cert.GateUpIdeal.τ).loc Cert.GateUpIdeal.main_v0_0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_1) = v0 c
          ∧ r.2.mem ((c.tc : Thread Cert.GateUpIdeal.nD Cert.GateUpIdeal.τ).loc Cert.GateUpIdeal.main_v0_0) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v0_0) = v0 c
          ∧ r.2.mem ((c.tc : Thread Cert.GateUpReferenceIdeal.nD Cert.GateUpReferenceIdeal.τ).loc Cert.GateUpReferenceIdeal.main_v0_1) = v1 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3))

def Claim : Prop :=
  ∃ (hQuant : Cert.Quant.Facts) (hQuantIdeal : Cert.QuantIdeal.Facts) (hQuantReferenceIdeal : Cert.QuantReferenceIdeal.Facts) (hGateUp : Cert.GateUp.Facts) (hGateUpIdeal : Cert.GateUpIdeal.Facts) (hGateUpReferenceIdeal : Cert.GateUpReferenceIdeal.Facts),
    quiescent_Quant (hQuant := hQuant)
    ∧ quiescent_QuantIdeal (hQuantIdeal := hQuantIdeal)
    ∧ quiescent_QuantReferenceIdeal (hQuantReferenceIdeal := hQuantReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ preserves_Quant_QuantIdeal
    ∧ algebraic_QuantIdeal_QuantReferenceIdeal (hQuantIdeal := hQuantIdeal) (hQuantReferenceIdeal := hQuantReferenceIdeal)
    ∧ preserves_GateUp_GateUpIdeal
    ∧ algebraic_GateUpIdeal_GateUpReferenceIdeal (hGateUpIdeal := hGateUpIdeal) (hGateUpReferenceIdeal := hGateUpReferenceIdeal)
-- ==== Quant.lean ====
abbrev S16384x8192 : Shape := ⟨2, ![16384, 8192]⟩
abbrev S16384x1 : Shape := ⟨2, ![16384, 1]⟩
abbrev S256x8192 : Shape := ⟨2, ![256, 8192]⟩
abbrev S256x1 : Shape := ⟨2, ![256, 1]⟩
abbrev S256 : Shape := ⟨1, ![256]⟩

abbrev nBuf : Space → Nat
  | .hbm => 3
  | .vmem => 6
  | .smem => 0
  | _ => 0

abbrev bufTy : (tb : Table) → Fin (tcTables nBuf tb) → BufTy
  | .hbm, ⟨0, _⟩ => ⟨S16384x8192, .bf16⟩
  | .hbm, ⟨1, _⟩ => ⟨S16384x8192, .fp8e4m3⟩
  | .hbm, ⟨2, _⟩ => ⟨S16384x1, .f32⟩
  | .local _ .vmem, ⟨0, _⟩ => ⟨S256x8192, .bf16⟩
  | .local _ .vmem, ⟨1, _⟩ => ⟨S256x8192, .bf16⟩
  | .local _ .vmem, ⟨2, _⟩ => ⟨S256x8192, .fp8e4m3⟩
  | .local _ .vmem, ⟨3, _⟩ => ⟨S256x8192, .fp8e4m3⟩
  | .local _ .vmem, ⟨4, _⟩ => ⟨S256x1, .f32⟩
  | .local _ .vmem, ⟨5, _⟩ => ⟨S256x1, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantReferenceIdeal.lean ====
abbrev S16384x8192 : Shape := ⟨2, ![16384, 8192]⟩
abbrev S16384x1 : Shape := ⟨2, ![16384, 1]⟩
abbrev S16384 : Shape := ⟨1, ![16384]⟩

abbrev nBuf : Space → Nat
  | .hbm => 3
  | .vmem => 3
  | .smem => 0
  | _ => 0

abbrev bufTy : (tb : Table) → Fin (tcTables nBuf tb) → BufTy
  | .hbm, ⟨0, _⟩ => ⟨S16384x8192, .bf16⟩
  | .hbm, ⟨1, _⟩ => ⟨S16384x8192, .fp8e4m3⟩
  | .hbm, ⟨2, _⟩ => ⟨S16384x1, .f32⟩
  | .local _ .vmem, ⟨0, _⟩ => ⟨S16384x8192, .bf16⟩
  | .local _ .vmem, ⟨1, _⟩ => ⟨S16384x8192, .fp8e4m3⟩
  | .local _ .vmem, ⟨2, _⟩ => ⟨S16384x1, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16384x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== GateUp.lean ====
abbrev S16384x8192 : Shape := ⟨2, ![16384, 8192]⟩
abbrev S16384x1 : Shape := ⟨2, ![16384, 1]⟩
abbrev S8192x16384 : Shape := ⟨2, ![8192, 16384]⟩
abbrev S1x16384 : Shape := ⟨2, ![1, 16384]⟩
abbrev S512x8192 : Shape := ⟨2, ![512, 8192]⟩
abbrev S512x1 : Shape := ⟨2, ![512, 1]⟩
abbrev S8192x256 : Shape := ⟨2, ![8192, 256]⟩
abbrev S1x256 : Shape := ⟨2, ![1, 256]⟩
abbrev S512x256 : Shape := ⟨2, ![512, 256]⟩
abbrev S512 : Shape := ⟨1, ![512]⟩

abbrev nBuf : Space → Nat
  | .hbm => 6
  | .vmem => 18
  | .smem => 0
  | _ => 0

abbrev bufTy : (tb : Table) → Fin (tcTables nBuf tb) → BufTy
  | .hbm, ⟨0, _⟩ => ⟨S16384x8192, .fp8e4m3⟩
  | .hbm, ⟨1, _⟩ => ⟨S16384x1, .f32⟩
  | .hbm, ⟨2, _⟩ => ⟨S8192x16384, .fp8e4m3⟩
  | .hbm, ⟨3, _⟩ => ⟨S1x16384, .f32⟩
  | .hbm, ⟨4, _⟩ => ⟨S16384x8192, .fp8e4m3⟩
  | .hbm, ⟨5, _⟩ => ⟨S16384x1, .f32⟩
  | .local _ .vmem, ⟨0, _⟩ => ⟨S512x8192, .fp8e4m3⟩
  | .local _ .vmem, ⟨1, _⟩ => ⟨S512x8192, .fp8e4m3⟩
  | .local _ .vmem, ⟨2, _⟩ => ⟨S512x1, .f32⟩
  | .local _ .vmem, ⟨3, _⟩ => ⟨S512x1, .f32⟩
  | .local _ .vmem, ⟨4, _⟩ => ⟨S8192x256, .fp8e4m3⟩
  | .local _ .vmem, ⟨5, _⟩ => ⟨S8192x256, .fp8e4m3⟩
  | .local _ .vmem, ⟨6, _⟩ => ⟨S8192x256, .fp8e4m3⟩
  | .local _ .vmem, ⟨7, _⟩ => ⟨S8192x256, .fp8e4m3⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S512x8192, .fp8e4m3⟩
  | .local _ .vmem, ⟨13, _⟩ => ⟨S512x8192, .fp8e4m3⟩
  | .local _ .vmem, ⟨14, _⟩ => ⟨S512x1, .f32⟩
  | .local _ .vmem, ⟨15, _⟩ => ⟨S512x1, .f32⟩
  | .local _ .vmem, ⟨16, _⟩ => ⟨S512x8192, .f32⟩
  | .local _ .vmem, ⟨17, _⟩ => ⟨S512x1, .f32⟩
  | _, _ => ⟨S16384x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 32], ![false, false]⟩

def k0_mult1 (i : grid0.Coords) : BitVec 32 :=
  let arg1 : BitVec 32 := BitVec.ofNat 32 (i 1).val
  let c256_i32 : BitVec 32 := 256#32
  let v19 : BitVec 32 := Scalar.muli arg1 c256_i32
  v19
def k0_off1 (i : grid0.Coords) : Fin 2 → Nat :=
  let c0_12 : Index := 0#32
  let arg1 : BitVec 32 := BitVec.ofNat 32 (i 1).val
  let c256_i32 : BitVec 32 := 256#32
  let v19 : BitVec 32 := Scalar.muli arg1 c256_i32
  let v20 : BitVec 32 := v19
  let v21 : Index := Scalar.indexCast v20
  ![0, v21.toNat]
def k0_cond3 (i : grid0.Coords) : BitVec 1 :=
  let arg1 : BitVec 32 := BitVec.ofNat 32 (i 1).val
  let c31_i32 : BitVec 32 := 31#32
  let v34 : BitVec 1 := Scalar.cmpi .eq arg1 c31_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateUpReferenceIdeal.lean ====
abbrev S16384x8192 : Shape := ⟨2, ![16384, 8192]⟩
abbrev S16384x1 : Shape := ⟨2, ![16384, 1]⟩
abbrev S8192x16384 : Shape := ⟨2, ![8192, 16384]⟩
abbrev S1x16384 : Shape := ⟨2, ![1, 16384]⟩
abbrev S16384x16384 : Shape := ⟨2, ![16384, 16384]⟩
abbrev S16384 : Shape := ⟨1, ![16384]⟩

abbrev nBuf : Space → Nat
  | .hbm => 6
  | .vmem => 6
  | .smem => 0
  | _ => 0

abbrev bufTy : (tb : Table) → Fin (tcTables nBuf tb) → BufTy
  | .hbm, ⟨0, _⟩ => ⟨S16384x8192, .fp8e4m3⟩
  | .hbm, ⟨1, _⟩ => ⟨S16384x1, .f32⟩
  | .hbm, ⟨2, _⟩ => ⟨S8192x16384, .fp8e4m3⟩
  | .hbm, ⟨3, _⟩ => ⟨S1x16384, .f32⟩
  | .hbm, ⟨4, _⟩ => ⟨S16384x1, .f32⟩
  | .hbm, ⟨5, _⟩ => ⟨S16384x8192, .fp8e4m3⟩
  | .local _ .vmem, ⟨0, _⟩ => ⟨S16384x8192, .fp8e4m3⟩
  | .local _ .vmem, ⟨1, _⟩ => ⟨S16384x1, .f32⟩
  | .local _ .vmem, ⟨2, _⟩ => ⟨S8192x16384, .fp8e4m3⟩
  | .local _ .vmem, ⟨3, _⟩ => ⟨S1x16384, .f32⟩
  | .local _ .vmem, ⟨4, _⟩ => ⟨S16384x1, .f32⟩
  | .local _ .vmem, ⟨5, _⟩ => ⟨S16384x8192, .fp8e4m3⟩
  | _, _ => ⟨S16384x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Quantiser.lean ====
module

public import Idealize.ShloMosaic.PureOps.Ideal.Laws
public import Idealize.ShloMosaic.Lib.IdealHost

@[expose] public section

/-
  THE POWER-OF-TWO SCALE OF ONE ROW, over the extended reals. `t` is the row's largest absolute value times 1/448. The kernel
  finds the exponent field of `t` by eight comparisons against powers of two and puts the scale and its inverse together from
  their bit patterns; the reference takes ⌊log t / log 2⌋ + 1 and exponentials. The two scales and the two inverses are equal
  for every `t`.
-/
noncomputable section

namespace Cert.Quantiser

open Idealize Idealize.ShloMosaic

/-! ## The kernel's side -/

/-- The f32 whose exponent field is the word `f` (sign and fraction zero). -/
def power (f : BitVec 32) : EReal := Ideal.ofBits .f32 (IntOp.shli .vector f 23#32)

/-- One comparison of the search: the bit `b` is added to the field `f` when `t` is at least the power with that field. -/
def step (t : EReal) (b f : BitVec 32) : BitVec 32 :=
  Scalar.select (Ideal.cmp .oge t (power (IntOp.addi f b))) (IntOp.addi f b) f

/-- The field after the eight comparisons. -/
def search (t : EReal) : BitVec 32 :=
  step t 1#32 (step t 2#32 (step t 4#32 (step t 8#32 (step t 16#32 (step t 32#32 (step t 64#32 (step t 128#32 0#32)))))))

/-- The field, 255 from 2^126 on. -/
def field (t : EReal) : BitVec 32 :=
  Scalar.select (Ideal.cmp .olt t (Ideal.ofBits .f32 0x7E800000#32)) (search t) 255#32

/-- The exponent: zero when the field is 0 or 255. -/
def expo (t : EReal) : BitVec 32 :=
  Scalar.select (IntOp.ori (IntOp.cmpi .eq (field t) 0#32) (IntOp.cmpi .eq (field t) 255#32)) 0#32 (IntOp.subi (field t) 126#32)

/-- The kernel's scale. -/
def kscale (t : EReal) : EReal := power (IntOp.addi 127#32 (expo t))

/-- The kernel's inverse scale. -/
def kinv (t : EReal) : EReal := power (IntOp.subi 127#32 (expo t))

/-! ## The reference's side -/

/-- The logarithm of two. -/
def log2 : EReal := Ideal.log (Ideal.ofBits .f32 0x40000000#32)

/-- The exponent: ⌊log t / log 2⌋ + 1 between 2^-126 and 2^126, zero elsewhere. -/
def rexpo (t : EReal) : EReal :=
  Scalar.select (IntOp.andi (Ideal.cmp .oge t (Ideal.ofBits .f32 0x00800000#32)) (Ideal.cmp .olt t (Ideal.ofBits .f32 0x7E800000#32)))
    (Ideal.liftRound Int.floor (Ideal.div (Ideal.log t) log2) + Ideal.ofBits .f32 0x3F800000#32) (Ideal.ofBits .f32 0x00000000#32)

/-- The reference's scale. -/
def rscale (t : EReal) : EReal := Ideal.exp (rexpo t * log2)

/-- The reference's inverse scale. -/
def rinv (t : EReal) : EReal := Ideal.exp ((Ideal.ofBits .f32 0x00000000#32 - rexpo t) * log2)

/-! ## The powers of two -/

/-- The three fields of a pattern that is an exponent field alone. -/
theorem parts : ∀ f : Fin 256, (BitVec.ofNat 32 f.val <<< 23#32).extractLsb' 31 1 = 0#1
    ∧ ((BitVec.ofNat 32 f.val <<< 23#32).extractLsb' 23 8).toNat = f.val
    ∧ ((BitVec.ofNat 32 f.val <<< 23#32).extractLsb' 0 23).toNat = 0 := by decide +kernel

/-- An f32 pattern read as its three fields. -/
theorem ofBits_f32 (b : BitVec 32) : Ideal.ofBits .f32 b = Ideal.ieee 8 23 b := rfl

/-- A field between 1 and 254 is a power of two. -/
theorem power_mid (f : ℕ) (h1 : 1 ≤ f) (h2 : f ≤ 254) : power (BitVec.ofNat 32 f) = (((2 : ℝ) ^ ((f : ℤ) - 127) : ℝ) : EReal) := by
  obtain ⟨p1, p2, p3⟩ := parts ⟨f, by omega⟩
  have hsh : IntOp.shli .vector (BitVec.ofNat 32 f) 23#32 = BitVec.ofNat 32 f <<< 23#32 := if_pos (by decide)
  unfold power
  rw [hsh, ofBits_f32]
  unfold Ideal.ieee
  simp only [p1, p2, p3]
  rw [if_neg (by omega), if_neg (by omega), EReal.coe_eq_coe_iff]
  have e : ((f : ℤ) - (2 ^ (8 - 1) - 1) - (23 : ℕ)) = ((f : ℤ) - 127) - 23 := by norm_num
  rw [e, zpow_sub₀ (by norm_num : (2 : ℝ) ≠ 0)]
  norm_num
  ring

/-- The field 255 is +∞. -/
theorem power_top : power 255#32 = ⊤ := by
  obtain ⟨p1, p2, p3⟩ := parts ⟨255, by omega⟩
  have hsh : IntOp.shli .vector 255#32 23#32 = BitVec.ofNat 32 255 <<< 23#32 := if_pos (by decide)
  unfold power
  rw [hsh, ofBits_f32]
  unfold Ideal.ieee
  simp only [p1, p2, p3]
  simp

theorem bits_min : Ideal.ofBits .f32 0x00800000#32 = (((2 : ℝ) ^ (-126 : ℤ) : ℝ) : EReal) :=
  (congrArg (Ideal.ofBits .f32) (by decide : (0x00800000#32 : BitVec 32) = IntOp.shli .vector (BitVec.ofNat 32 1) 23#32)).trans
    (power_mid 1 (by omega) (by omega))

theorem bits_max : Ideal.ofBits .f32 0x7E800000#32 = (((2 : ℝ) ^ (126 : ℤ) : ℝ) : EReal) :=
  (congrArg (Ideal.ofBits .f32) (by decide : (0x7E800000#32 : BitVec 32) = IntOp.shli .vector (BitVec.ofNat 32 253) 23#32)).trans
    (power_mid 253 (by omega) (by omega))

theorem bits_one : Ideal.ofBits .f32 0x3F800000#32 = ((1 : ℝ) : EReal) :=
  ((congrArg (Ideal.ofBits .f32) (by decide : (0x3F800000#32 : BitVec 32) = IntOp.shli .vector (BitVec.ofNat 32 127) 23#32)).trans
    (power_mid 127 (by omega) (by omega))).trans (by norm_num)

theorem bits_two : Ideal.ofBits .f32 0x40000000#32 = ((2 : ℝ) : EReal) :=
  ((congrArg (Ideal.ofBits .f32) (by decide : (0x40000000#32 : BitVec 32) = IntOp.shli .vector (BitVec.ofNat 32 128) 23#32)).trans
    (power_mid 128 (by omega) (by omega))).trans (by norm_num)

theorem log2_eq : log2 = ((Real.log 2 : ℝ) : EReal) := by
  unfold log2
  rw [bits_two, Ideal.log_coe, if_neg (by norm_num)]

/-! ## The search -/

/-- One step on natural numbers, when the search is for `b`. -/
def nstep (b k f : ℕ) : ℕ := if f + k ≤ b then f + k else f

theorem nsearch : ∀ b : Fin 255,
    nstep b 1 (nstep b 2 (nstep b 4 (nstep b 8 (nstep b 16 (nstep b 32 (nstep b 64 (nstep b 128 0))))))) = b.val := by
  decide +kernel

theorem nstep_le (b k f : ℕ) : nstep b k f ≤ f + k := by
  unfold nstep; split <;> omega

theorem step_eq (t : EReal) (b : ℕ) (h : ∀ f : ℕ, 1 ≤ f → f ≤ 255 → (power (BitVec.ofNat 32 f) ≤ t ↔ f ≤ b)) (k f : ℕ)
    (hk : 1 ≤ k) (hf : f + k ≤ 255) : step t (BitVec.ofNat 32 k) (BitVec.ofNat 32 f) = BitVec.ofNat 32 (nstep b k f) := by
  have ha : IntOp.addi (BitVec.ofNat 32 f) (BitVec.ofNat 32 k) = BitVec.ofNat 32 (f + k) := (BitVec.ofNat_add f k).symm
  unfold step nstep
  rw [ha]
  have hb := h (f + k) (by omega) hf
  by_cases hc : f + k ≤ b
  · rw [if_pos hc]
    have : Ideal.cmp .oge t (power (BitVec.ofNat 32 (f + k))) = 1#1 := by
      show BitVec.ofBool (decide _) = _
      rw [decide_eq_true (hb.2 hc)]; rfl
    rw [this]; rfl
  · rw [if_neg hc]
    have : Ideal.cmp .oge t (power (BitVec.ofNat 32 (f + k))) = 0#1 := by
      show BitVec.ofBool (decide _) = _
      rw [decide_eq_false (fun hh => hc (hb.1 hh))]; rfl
    rw [this]; rfl

/-- If `t` is at least the power with field `f` exactly for `f` up to `b`, the search ends at `b`. -/
theorem search_eq (t : EReal) (b : ℕ) (hb : b ≤ 254)
    (h : ∀ f : ℕ, 1 ≤ f → f ≤ 255 → (power (BitVec.ofNat 32 f) ≤ t ↔ f ≤ b)) : search t = BitVec.ofNat 32 b := by
  have l1 := nstep_le b 128 0
  have l2 := nstep_le b 64 (nstep b 128 0)
  have l3 := nstep_le b 32 (nstep b 64 (nstep b 128 0))
  have l4 := nstep_le b 16 (nstep b 32 (nstep b 64 (nstep b 128 0)))
  have l5 := nstep_le b 8 (nstep b 16 (nstep b 32 (nstep b 64 (nstep b 128 0))))
  have l6 := nstep_le b 4 (nstep b 8 (nstep b 16 (nstep b 32 (nstep b 64 (nstep b 128 0)))))
  have l7 := nstep_le b 2 (nstep b 4 (nstep b 8 (nstep b 16 (nstep b 32 (nstep b 64 (nstep b 128 0))))))
  unfold search
  rw [show (0#32 : BitVec 32) = BitVec.ofNat 32 0 from rfl, step_eq t b h 128 0 (by omega) (by omega),
    step_eq t b h 64 _ (by omega) (by omega), step_eq t b h 32 _ (by omega) (by omega),
    step_eq t b h 16 _ (by omega) (by omega), step_eq t b h 8 _ (by omega) (by omega),
    step_eq t b h 4 _ (by omega) (by omega), step_eq t b h 2 _ (by omega) (by omega),
    step_eq t b h 1 _ (by omega) (by omega), nsearch ⟨b, by omega⟩]

/-! ## The three ranges of `t` -/

theorem cmp_oge_true {x y : EReal} (h : y ≤ x) : Ideal.cmp .oge x y = 1#1 := by
  show BitVec.ofBool (decide _) = _
  rw [decide_eq_true h]; rfl
theorem cmp_oge_false {x y : EReal} (h : ¬ y ≤ x) : Ideal.cmp .oge x y = 0#1 := by
  show BitVec.ofBool (decide _) = _
  rw [decide_eq_false h]; rfl
theorem cmp_olt_true {x y : EReal} (h : x < y) : Ideal.cmp .olt x y = 1#1 := by
  show BitVec.ofBool (decide _) = _
  rw [decide_eq_true h]; rfl
theorem cmp_olt_false {x y : EReal} (h : ¬ x < y) : Ideal.cmp .olt x y = 0#1 := by
  show BitVec.ofBool (decide _) = _
  rw [decide_eq_false h]; rfl

theorem pow_le {a b : ℤ} : (((2 : ℝ) ^ a : ℝ) : EReal) ≤ (((2 : ℝ) ^ b : ℝ) : EReal) ↔ a ≤ b := by
  rw [EReal.coe_le_coe_iff]; exact zpow_le_zpow_iff_right₀ (by norm_num)
theorem pow_lt {a b : ℤ} : (((2 : ℝ) ^ a : ℝ) : EReal) < (((2 : ℝ) ^ b : ℝ) : EReal) ↔ a < b := by
  rw [EReal.coe_lt_coe_iff]; exact zpow_lt_zpow_iff_right₀ (by norm_num)

/-- Below 2^-126 both exponents are zero. -/
theorem expo_low (t : EReal) (h : t < (((2 : ℝ) ^ (-126 : ℤ) : ℝ) : EReal)) : expo t = 0#32 ∧ rexpo t = 0 := by
  have hlt : t < (((2 : ℝ) ^ (126 : ℤ) : ℝ) : EReal) := h.trans (pow_lt.2 (by norm_num))
  constructor
  · have hs : search t = BitVec.ofNat 32 0 := by
      refine search_eq t 0 (by omega) fun f h1 h2 => ⟨fun hh => absurd (lt_of_le_of_lt hh h) ?_, fun hh => by omega⟩
      rcases Nat.lt_or_ge f 255 with h3 | h3
      · rw [power_mid f h1 (by omega), pow_lt]; omega
      · rw [show f = 255 by omega]; show ¬ power 255#32 < _; rw [power_top]; exact not_top_lt
    have hf : field t = 0#32 := by
      unfold field
      rw [bits_max, cmp_olt_true hlt, hs]; rfl
    unfold expo
    rw [hf]; decide
  · unfold rexpo
    rw [bits_min, bits_max, cmp_oge_false (not_le.2 h), cmp_olt_true hlt, Ideal.ofBits_zero_f32]
    rfl

/-- From 2^126 on both exponents are zero. -/
theorem expo_high (t : EReal) (h : (((2 : ℝ) ^ (126 : ℤ) : ℝ) : EReal) ≤ t) : expo t = 0#32 ∧ rexpo t = 0 := by
  constructor
  · have hf : field t = 255#32 := by
      unfold field
      rw [bits_max, cmp_olt_false (not_lt.2 h)]; rfl
    unfold expo
    rw [hf]; decide
  · unfold rexpo
    rw [bits_min, bits_max, cmp_olt_false (not_lt.2 h), cmp_oge_true ((pow_le.2 (by norm_num)).trans h), Ideal.ofBits_zero_f32]
    rfl

theorem expo_words : ∀ b : Fin 253, 1 ≤ b.val →
    IntOp.addi 127#32 (Scalar.select (IntOp.ori (IntOp.cmpi .eq (BitVec.ofNat 32 b.val) 0#32) (IntOp.cmpi .eq (BitVec.ofNat 32 b.val) 255#32)) 0#32
      (IntOp.subi (BitVec.ofNat 32 b.val) 126#32)) = BitVec.ofNat 32 (b.val + 1)
    ∧ IntOp.subi 127#32 (Scalar.select (IntOp.ori (IntOp.cmpi .eq (BitVec.ofNat 32 b.val) 0#32) (IntOp.cmpi .eq (BitVec.ofNat 32 b.val) 255#32)) 0#32
      (IntOp.subi (BitVec.ofNat 32 b.val) 126#32)) = BitVec.ofNat 32 (253 - b.val) := by decide +kernel

/-- Between the two bounds, with 2^(b-127) ≤ t < 2^(b-126): the words of the scale and its inverse, and the reference's exponent. -/
theorem expo_mid (r : ℝ) (h1 : (2 : ℝ) ^ (-126 : ℤ) ≤ r) (h2 : r < (2 : ℝ) ^ (126 : ℤ)) :
    ∃ b : ℕ, 1 ≤ b ∧ b ≤ 252 ∧ IntOp.addi 127#32 (expo (r : EReal)) = BitVec.ofNat 32 (b + 1)
      ∧ IntOp.subi 127#32 (expo (r : EReal)) = BitVec.ofNat 32 (253 - b) ∧ rexpo (r : EReal) = (((b : ℝ) - 126 : ℝ) : EReal) := by
  have hr : 0 < r := lt_of_lt_of_le (by positivity) h1
  have hlog : 0 < Real.log 2 := Real.log_pos (by norm_num)
  set n : ℤ := ⌊Real.log r / Real.log 2⌋ with hn
  have key : ∀ k : ℤ, (2 : ℝ) ^ k ≤ r ↔ k ≤ n := by
    intro k
    rw [hn, Int.le_floor, le_div_iff₀ hlog, ← Real.log_zpow, Real.log_le_log_iff (by positivity) hr]
  have hn1 : -126 ≤ n := (key _).1 h1
  have hn2 : n < 126 := by
    by_contra hc
    exact absurd h2 (not_lt.2 ((key 126).2 (by omega)))
  have e1 : (((2 : ℝ) ^ (-126 : ℤ) : ℝ) : EReal) ≤ (r : EReal) := EReal.coe_le_coe_iff.2 h1
  have e2 : (r : EReal) < (((2 : ℝ) ^ (126 : ℤ) : ℝ) : EReal) := EReal.coe_lt_coe_iff.2 h2
  obtain ⟨b, hb⟩ : ∃ b : ℕ, (b : ℤ) = n + 127 := ⟨(n + 127).toNat, by omega⟩
  have hs : search (r : EReal) = BitVec.ofNat 32 b := by
    refine search_eq _ b (by omega) fun f g1 g2 => ?_
    rcases Nat.lt_or_ge f 255 with h3 | h3
    · rw [power_mid f g1 (by omega), EReal.coe_le_coe_iff, key]; omega
    · rw [show f = 255 by omega]
      show power 255#32 ≤ _ ↔ _
      rw [power_top, top_le_iff]
      exact ⟨fun hh => absurd hh (EReal.coe_ne_top r), fun hh => by omega⟩
  have hf : field (r : EReal) = BitVec.ofNat 32 b := by
    unfold field
    rw [bits_max, cmp_olt_true e2, hs]; rfl
  obtain ⟨w1, w2⟩ := expo_words ⟨b, by omega⟩ (show 1 ≤ b by omega)
  refine ⟨b, by omega, by omega, ?_, ?_, ?_⟩
  · unfold expo; rw [hf]; exact w1
  · unfold expo; rw [hf]; exact w2
  · unfold rexpo
    rw [bits_min, bits_max, cmp_oge_true e1, cmp_olt_true e2, bits_one, log2_eq, Ideal.log_coe, if_neg (not_le.2 hr)]
    have hd : Ideal.div ((Real.log r : ℝ) : EReal) ((Real.log 2 : ℝ) : EReal) = ((Real.log r / Real.log 2 : ℝ) : EReal) := by
      unfold Ideal.div
      rw [if_neg (by exact_mod_cast hlog.ne'), ← EReal.coe_inv, ← EReal.coe_mul, div_eq_mul_inv]
    rw [hd]
    show ((⌊Real.log r / Real.log 2⌋ : ℤ) : ℝ) + ((1 : ℝ) : EReal) = _
    rw [← hn, ← EReal.coe_add]
    congr 1
    have : (b : ℝ) = (n : ℝ) + 127 := by exact_mod_cast hb
    rw [this]; ring

/-! ## Equal scales -/

theorem exp_pow (k : ℤ) (x : ℝ) (hx : x = (k : ℝ)) : Ideal.exp ((x : EReal) * log2) = (((2 : ℝ) ^ k : ℝ) : EReal) := by
  rw [log2_eq, ← EReal.coe_mul, Ideal.exp_coe, hx]
  congr 1
  rw [mul_comm, Real.exp_mul, Real.exp_log (by norm_num), Real.rpow_intCast]

theorem power_one : power 127#32 = 1 := (power_mid 127 (by omega) (by omega)).trans (by norm_num)

theorem exp_zero_log2 : Ideal.exp (0 * log2) = 1 := by
  rw [zero_mul]
  exact (Ideal.exp_coe (r := 0)).trans (by simp)

theorem zero_case (t : EReal) (h : expo t = 0#32 ∧ rexpo t = 0) : kscale t = rscale t ∧ kinv t = rinv t := by
  unfold kscale rscale kinv rinv
  rw [h.1, h.2, Ideal.ofBits_zero_f32, sub_zero, exp_zero_log2]
  exact ⟨power_one, power_one⟩

theorem both (t : EReal) : kscale t = rscale t ∧ kinv t = rinv t := by
  rcases lt_or_ge t (((2 : ℝ) ^ (-126 : ℤ) : ℝ) : EReal) with h | h
  · exact zero_case t (expo_low t h)
  rcases le_or_gt (((2 : ℝ) ^ (126 : ℤ) : ℝ) : EReal) t with h' | h'
  · exact zero_case t (expo_high t h')
  · lift t to ℝ using ⟨h'.ne_top, ((EReal.bot_lt_coe _).trans_le h).ne'⟩
    obtain ⟨b, b1, b2, w1, w2, w3⟩ := expo_mid t (EReal.coe_le_coe_iff.1 h) (EReal.coe_lt_coe_iff.1 h')
    unfold kscale rscale kinv rinv
    rw [w1, w2, w3, power_mid (b + 1) (by omega) (by omega), power_mid (253 - b) (by omega) (by omega), Ideal.ofBits_zero_f32]
    constructor
    · rw [exp_pow ((b : ℤ) - 126) _ (by push_cast; ring)]
      exact congrArg (fun k : ℤ => (((2 : ℝ) ^ k : ℝ) : EReal)) (by push_cast; ring)
    · have : (0 : EReal) - (((b : ℝ) - 126 : ℝ) : EReal) = ((126 - (b : ℝ) : ℝ) : EReal) := by
        rw [← EReal.coe_zero, ← EReal.coe_sub]; congr 1; ring
      rw [this, exp_pow (126 - (b : ℤ)) _ (by push_cast; ring)]
      exact congrArg (fun k : ℤ => (((2 : ℝ) ^ k : ℝ) : EReal)) (by omega)

/-- THE SCALES AGREE for every extended real `t`. -/
theorem scale_eq (t : EReal) : kscale t = rscale t := (both t).1

/-- THE INVERSE SCALES AGREE for every extended real `t`. -/
theorem inv_eq (t : EReal) : kinv t = rinv t := (both t).2

end Cert.Quantiser

end
-- ==== Proof.Rows.lean ====
/- Rows of a matrix over the extended reals: the largest absolute value of a row as a vector reduction leaves it, a column
   spread over a row, and the codes of a row. -/
module

public import proofs.«01_k».proof.Proof.Quantiser
public import Idealize.ShloMosaic.Lib.Pipeline.Value
public import Idealize.ShloMosaic.Lib.MatmulPlain
public import Idealize.ShloMosaic.Lib.ValueIdxCore

@[expose] public section

noncomputable section

namespace Cert.Rows

open Idealize Idealize.ShloMosaic Idealize.ShloMosaic.ValueIdx Cert.Quantiser

/-- The largest absolute value of a row. -/
def rowMax {n : ℕ} (v : Fin n → EReal) : EReal := (Finset.univ : Finset (Fin n)).fold max ⊥ fun k => max (v k) (-(v k))

/-- That value times the f32 nearest 1/448. -/
def rowT {n : ℕ} (v : Fin n → EReal) : EReal := rowMax v * Ideal.ofBits .f32 0x3B124925#32

/-- A value clipped to the range of the codes, -448 to 448. -/
def clip (y : EReal) : EReal := min (Ideal.ofBits .f32 0x43E00000#32) (max (Ideal.ofBits .f32 0xC3E00000#32) y)

/-- The pattern of -∞. -/
theorem bits_bot : Ideal.ofBits .f32 0xFF800000#32 = ⊥ := by
  rw [ofBits_f32]
  unfold Ideal.ieee
  have e1 : ((0xFF800000#32 : BitVec 32).extractLsb' (8 + 23) 1 == 1#1) = true := by decide
  have e2 : ((0xFF800000#32 : BitVec 32).extractLsb' 23 8).toNat = 255 := by decide
  have e3 : ((0xFF800000#32 : BitVec 32).extractLsb' 0 23).toNat = 0 := by decide
  simp only [e1, e2, e3]
  simp

/-- The row maxima of |v|, kept as a column, at row `r`. -/
theorem rowMax_apply {M N : ℕ} (v : FVec Ideal ⟨2, ![M, N]⟩ .f32) (h : Shape.Reduces ⟨2, ![M, N]⟩ [1] ⟨1, ![M]⟩)
    (hφ : FKind.Formats .f32) (hacc : (0xFF800000#32 : BitVec 32) = FKind.maximumf.neutral .f32 hφ)
    (hs : Shape.ShapeCasts ⟨1, ![M]⟩ ⟨2, ![M, 1]⟩) (r : Fin M) (z : Fin 1) :
    shapeCast ⟨2, ![M, 1]⟩ (multiReduction .maximumf [1] ⟨1, ![M]⟩ (absf v) 0xFF800000#32 h hφ hacc) hs (ix2 r z)
      = rowMax fun k : Fin N => v (ix2 r k) := by
  rw [shapeCast_apply _ hs (ix2 r z) (ix1 r) (by
    rw [Shape.rowMajor_val_one, Shape.rowMajor_val_two]
    show r.val = r.val * 1 + z.val
    omega)]
  rw [Ideal.multiReduction_maximumf_single (absf v) _ h hφ hacc (ix1 r)]
  unfold rowMax
  rw [show FloatOps.ofBits (F := Ideal) .f32 0xFF800000#32 = (⊥ : EReal) from bits_bot]
  congr 1
  funext k
  have e : h.lift (ix1 r) k = ix2 r k := by
    funext c; apply Fin.ext
    match c with
    | ⟨0, _⟩ => rfl
    | ⟨1, _⟩ => rfl
  show max (v (h.lift (ix1 r) k)) (-(v (h.lift (ix1 r) k))) = max (v (ix2 r k)) (-(v (ix2 r k)))
  rw [e]
  rfl

/-- A column spread over the columns of a matrix. -/
theorem spreadCol_apply {M N : ℕ} {α : Type} (x : (⟨2, ![M, 1]⟩ : Shape).Idx → α) (h : Shape.Broadcasts ⟨2, ![M, 1]⟩ ⟨2, ![M, N]⟩)
    (r : Fin M) (k : Fin N) : broadcastTo ⟨2, ![M, N]⟩ x h (ix2 r k) = x (ix2 r (0 : Fin 1)) :=
  broadcastTo_apply x h (ix2 r k) (ix2 r (0 : Fin 1)) (fun a => match a with
    | ⟨0, _⟩ => by
      show r.val = if M = 1 then 0 else r.val
      split
      · have := r.isLt; omega
      · rfl
    | ⟨1, _⟩ => rfl)

/-- A row spread over the rows of a matrix. -/
theorem spreadRow_apply {M N : ℕ} {α : Type} (x : (⟨2, ![1, N]⟩ : Shape).Idx → α) (h : Shape.Broadcasts ⟨2, ![1, N]⟩ ⟨2, ![M, N]⟩)
    (r : Fin M) (k : Fin N) : broadcastTo ⟨2, ![M, N]⟩ x h (ix2 r k) = x (ix2 (0 : Fin 1) k) :=
  broadcastTo_apply x h (ix2 r k) (ix2 (0 : Fin 1) k) (fun a => match a with
    | ⟨0, _⟩ => rfl
    | ⟨1, _⟩ => by
      show k.val = if N = 1 then 0 else k.val
      split
      · have := k.isLt; omega
      · rfl)

/-! ## The quantiser as the two programs spell it, for any float type -/

section Generic

variable {F : FTy → Type} [FloatOps F]

/-- The f32 with exponent field `f`. -/
def gpower (f : BitVec 32) : F .f32 := FloatOps.ofBits .f32 (IntOp.shli .vector f 23#32)

/-- One comparison of the search. -/
def gstep (t : F .f32) (b f : BitVec 32) : BitVec 32 :=
  Scalar.select (FloatOps.cmpf .oge t (gpower (IntOp.addi f b))) (IntOp.addi f b) f

/-- The field from the last five comparisons and the upper bound. -/
def gfield (t : F .f32) (f : BitVec 32) : BitVec 32 :=
  Scalar.select (FloatOps.cmpf .olt t (FloatOps.ofBits .f32 0x7E800000#32))
    (gstep t 1#32 (gstep t 2#32 (gstep t 4#32 (gstep t 8#32 (gstep t 16#32 f))))) 255#32

/-- The exponent of a field. -/
def gexpo (f : BitVec 32) : BitVec 32 :=
  Scalar.select (IntOp.ori (IntOp.cmpi .eq f 0#32) (IntOp.cmpi .eq f 255#32)) 0#32 (IntOp.subi f 126#32)

/-- A product clipped to the range of the codes and rounded to their type. -/
def gclip (v s : F .f32) (h : FTy.fp8e4m3.bits < FTy.f32.bits) : F .fp8e4m3 :=
  FloatOps.truncf .fp8e4m3 h (FloatOps.minimumf (FloatOps.ofBits .f32 0x43E00000#32)
    (FloatOps.maximumf (FloatOps.ofBits .f32 0xC3E00000#32) (FloatOps.mulf v s)))

/-- The logarithm of two. -/
def glog2 : F .f32 := FloatOps.log (FloatOps.ofBits .f32 0x40000000#32)

/-- The reference's exponent. -/
def grexpo (t : F .f32) : F .f32 :=
  Scalar.select (IntOp.andi (FloatOps.cmpf .oge t (FloatOps.ofBits .f32 0x00800000#32)) (FloatOps.cmpf .olt t (FloatOps.ofBits .f32 0x7E800000#32)))
    (FloatOps.addf (FloatOps.floor (FloatOps.divf (FloatOps.log t) glog2)) (FloatOps.ofBits .f32 0x3F800000#32)) (FloatOps.ofBits .f32 0x00000000#32)

/-- The reference's scale. -/
def grscale (t : F .f32) : F .f32 := FloatOps.exp (FloatOps.mulf (grexpo t) glog2)

/-- The reference's inverse scale. -/
def grinv (t : F .f32) : F .f32 := FloatOps.exp (FloatOps.mulf (FloatOps.subf (FloatOps.ofBits .f32 0x00000000#32) (grexpo t)) glog2)

end Generic

theorem gpower_eq (f : BitVec 32) : gpower (F := Ideal) f = power f := rfl

theorem gstep_eq (t : EReal) (b f : BitVec 32) : gstep (F := Ideal) t b f = step t b f := rfl

/-- At the extended reals the kernel's field is the field of Proof/Quantiser.lean. -/
theorem gfield_eq (t : EReal) :
    gfield (F := Ideal) t (gstep (F := Ideal) t 32#32 (gstep (F := Ideal) t 64#32 (gstep (F := Ideal) t 128#32 0#32))) = field t := by
  unfold gfield field search
  simp only [gstep_eq]
  rfl

theorem gexpo_eq (t : EReal) : gexpo (field t) = expo t := rfl

theorem gclip_eq (v s : EReal) (h) : gclip (F := Ideal) v s h = clip (v * s) := rfl

theorem glog2_eq : glog2 (F := Ideal) = log2 := rfl

theorem grexpo_eq (t : EReal) : grexpo (F := Ideal) t = rexpo t := by
  unfold grexpo
  rw [glog2_eq]
  rfl

theorem grscale_eq (t : EReal) : grscale (F := Ideal) t = rscale t := by
  unfold grscale
  rw [grexpo_eq, glog2_eq]
  rfl

theorem grinv_eq (t : EReal) : grinv (F := Ideal) t = rinv t := by
  unfold grinv
  rw [grexpo_eq, glog2_eq]
  rfl

end Cert.Rows

end
-- ==== Proof.QuantPay.lean ====
/- The first call's kernel: its two payloads at an index of a block. -/
module

public import proofs.«01_k».proof.Proof.Rows
public import proofs.«01_k».proof.Proof.Gen.QuantIdeal.Value

@[expose] public section

set_option maxRecDepth 4096

noncomputable section

namespace Cert.QuantValue

open Idealize Idealize.ShloMosaic Idealize.ShloMosaic.TcCoe Idealize.SL.Sem Idealize.ShloMosaic.ValueIdx Cert.Quantiser Cert.Rows

/-! ## The kernel's payloads -/

section Kernel

open Cert.QuantIdeal Cert.QuantIdeal.Gen

variable {F : FTy → Type} [FloatOps F]

theorem pay5_def (v0 : Vec F S256x8192 .bf16) (j : S256x1.Idx) :
    k0_pay5 v0 j = FloatOps.mulf (shapeCast S256x1 (multiReduction .maximumf [1] S256 (absf (k0_pay4 v0)) 0xFF800000#32
      reduces_S256x8192_S256 (.inl rfl) rfl) shapeCasts_S256_S256x1 j) (FloatOps.ofBits .f32 0x3B124925#32) := rfl

theorem pay6_def (v0 : Vec F S256x8192 .bf16) (j : S256x1.Idx) :
    k0_pay6 v0 j = gstep (k0_pay5 v0 j) 32#32 (gstep (k0_pay5 v0 j) 64#32 (gstep (k0_pay5 v0 j) 128#32 0#32)) := rfl

theorem pay9_def (v0 : Vec F S256x8192 .bf16) (j : S256x1.Idx) :
    k0_pay9 (k0_pay5 v0) (k0_pay6 v0) (k0_pay7 v0) k0_pay8 j = gfield (k0_pay5 v0 j) (k0_pay6 v0 j) := rfl

theorem pay10_def (v0 : Vec F S256x8192 .bf16) (j : S256x1.Idx) :
    k0_pay10 (k0_pay5 v0) (k0_pay6 v0) (k0_pay7 v0) k0_pay8 j
      = IntOp.cmpi .eq (k0_pay9 (k0_pay5 v0) (k0_pay6 v0) (k0_pay7 v0) k0_pay8 j) 0#32 := rfl

theorem pay2_def (f : IVec S256x1 32) (z : IVec S256x1 1) (j : S256x1.Idx) :
    k0_pay2 (F := F) f z 255#32 j = gpower (IntOp.addi 127#32 (Scalar.select (IntOp.ori (z j) (IntOp.cmpi .eq (f j) 255#32)) 0#32 (IntOp.subi (f j) 126#32))) := rfl

theorem pay3_def (v1 : FVec F S256x8192 .f32) (f : IVec S256x1 32) (z : IVec S256x1 1) (r : Fin 256) (k : Fin 8192) :
    k0_pay3 v1 f z 255#32 (ix2 r k) = gclip (v1 (ix2 r k)) (gpower (IntOp.subi 127#32 (Scalar.select (IntOp.ori (z (ix2 r (0 : Fin 1)))
      (IntOp.cmpi .eq (f (ix2 r (0 : Fin 1))) 255#32)) 0#32 (IntOp.subi (f (ix2 r (0 : Fin 1))) 126#32)))) bitsLt_fp8e4m3_f32 := by
  unfold k0_pay3
  show gclip (v1 (ix2 r k)) (broadcastTo S256x8192 _ broadcasts_S256x1_S256x8192 (ix2 r k)) bitsLt_fp8e4m3_f32 = _
  refine congrArg (fun s => gclip (v1 (ix2 r k)) s bitsLt_fp8e4m3_f32) ?_
  exact (spreadCol_apply _ broadcasts_S256x1_S256x8192 r k).trans rfl

theorem pay5 (v0 : Vec Ideal S256x8192 .bf16) (r : Fin 256) (z : Fin 1) :
    k0_pay5 v0 (ix2 r z) = rowT fun k : Fin 8192 => v0 (ix2 r k) :=
  (pay5_def v0 (ix2 r z)).trans
    (congrArg (fun y : EReal => FloatOps.mulf (F := Ideal) (φ := .f32) y (FloatOps.ofBits .f32 0x3B124925#32))
      (rowMax_apply (k0_pay4 v0) reduces_S256x8192_S256 (.inl rfl) rfl shapeCasts_S256_S256x1 r z))

theorem field_apply (v0 : Vec Ideal S256x8192 .bf16) (j : S256x1.Idx) :
    k0_pay9 (k0_pay5 v0) (k0_pay6 v0) (k0_pay7 v0) k0_pay8 j = field (k0_pay5 v0 j) := by
  rw [pay9_def, pay6_def]
  exact gfield_eq _

theorem pay2 (v0 : Vec Ideal S256x8192 .bf16) (j : S256x1.Idx) :
    k0_pay2 (F := Ideal) (k0_pay9 (k0_pay5 v0) (k0_pay6 v0) (k0_pay7 v0) k0_pay8) (k0_pay10 (k0_pay5 v0) (k0_pay6 v0) (k0_pay7 v0) k0_pay8) 255#32 j
      = kscale (k0_pay5 v0 j) := by
  rw [pay2_def, pay10_def, field_apply]
  rfl

theorem pay3 (v0 : Vec Ideal S256x8192 .bf16) (r : Fin 256) (k : Fin 8192) :
    k0_pay3 (F := Ideal) (k0_pay4 v0) (k0_pay9 (k0_pay5 v0) (k0_pay6 v0) (k0_pay7 v0) k0_pay8) (k0_pay10 (k0_pay5 v0) (k0_pay6 v0) (k0_pay7 v0) k0_pay8) 255#32 (ix2 r k)
      = clip (v0 (ix2 r k) * kinv (k0_pay5 v0 (ix2 r (0 : Fin 1)))) := by
  rw [pay3_def, pay10_def, field_apply]
  rfl

/-- The codes of a block, at row `r` and column `k`. -/
theorem out1_apply (x : Vec Ideal S256x8192 .bf16) (r : Fin 256) (k : Fin 8192) :
    out0_1 x (ix2 r k) = clip (x (ix2 r k) * rinv (rowT fun k : Fin 8192 => x (ix2 r k))) := by
  have hz : (![0, 0] : Fin 2 → Nat) = fun _ => 0 := funext fun a => by fin_cases a <;> rfl
  have e : out0_1 x = k0_pay3 (F := Ideal) (k0_pay4 x) (k0_pay9 (k0_pay5 x) (k0_pay6 x) (k0_pay7 x) k0_pay8)
      (k0_pay10 (k0_pay5 x) (k0_pay6 x) (k0_pay7 x) k0_pay8) 255#32 := by
    unfold_out out0_1
    rw [View.canon_unit_zero hz, View.ld_unit_zero (S := S256x8192) hz _ x]
  rw [e, pay3, pay5, inv_eq]

/-- The scales of a block, at row `r`. -/
theorem out2_apply (x : Vec Ideal S256x8192 .bf16) (r : Fin 256) (z : Fin 1) :
    out0_2 x (ix2 r z) = rscale (rowT fun k : Fin 8192 => x (ix2 r k)) := by
  have hz : (![0, 0] : Fin 2 → Nat) = fun _ => 0 := funext fun a => by fin_cases a <;> rfl
  have e : out0_2 x = k0_pay2 (F := Ideal) (k0_pay9 (k0_pay5 x) (k0_pay6 x) (k0_pay7 x) k0_pay8)
      (k0_pay10 (k0_pay5 x) (k0_pay6 x) (k0_pay7 x) k0_pay8) 255#32 := by
    unfold_out out0_2
    rw [View.canon_unit_zero hz, View.ld_unit_zero (S := S256x8192) hz _ x]
  rw [e, pay2, pay5, scale_eq]

end Kernel

end Cert.QuantValue

end
-- ==== Proof.QuantRefPay.lean ====
/- The first call's reference: its two results at an index. -/
module

public import proofs.«01_k».proof.Proof.Rows
public import proofs.«01_k».proof.Proof.Gen.QuantReferenceIdeal.Value

@[expose] public section

set_option maxRecDepth 4096

noncomputable section

namespace Cert.QuantValue

open Idealize Idealize.ShloMosaic Idealize.ShloMosaic.TcCoe Idealize.SL.Sem Idealize.ShloMosaic.ValueIdx Cert.Quantiser Cert.Rows

/-! ## The reference's payloads -/

section Reference

open Cert.QuantReferenceIdeal Cert.QuantReferenceIdeal.Gen Cert.QuantReferenceIdeal.Value

section

variable {F : FTy → Type} [FloatOps F]

theorem rpay3_def (v0 : Vec F S16384x8192 .bf16) (j : S16384x1.Idx) :
    k0_pay3 v0 j = grexpo (FloatOps.mulf (shapeCast S16384x1 (multiReduction .maximumf [1] S16384 (absf (k0_pay1 v0)) 0xFF800000#32
      reduces_S16384x8192_S16384 (.inl rfl) rfl) shapeCasts_S16384_S16384x1 j) (FloatOps.ofBits .f32 0x3B124925#32)) := rfl

theorem rpay4_def (v0 : Vec F S16384x8192 .bf16) (j : S16384x1.Idx) :
    k0_pay4 v0 j = FloatOps.exp (FloatOps.mulf (k0_pay3 v0 j) glog2) := rfl

theorem rpay5_def (v0 : Vec F S16384x8192 .bf16) (r : Fin 16384) (k : Fin 8192) :
    k0_pay5 v0 (ix2 r k) = gclip (k0_pay1 v0 (ix2 r k))
      (FloatOps.exp (FloatOps.mulf (FloatOps.subf (FloatOps.ofBits .f32 0x00000000#32) (k0_pay3 v0 (ix2 r (0 : Fin 1)))) glog2)) bitsLt_fp8e4m3_f32 := by
  unfold k0_pay5
  show gclip (k0_pay1 v0 (ix2 r k)) (broadcastTo S16384x8192 _ broadcasts_S16384x1_S16384x8192 (ix2 r k)) bitsLt_fp8e4m3_f32 = _
  refine congrArg (fun s => gclip (k0_pay1 v0 (ix2 r k)) s bitsLt_fp8e4m3_f32) ?_
  exact (spreadCol_apply _ broadcasts_S16384x1_S16384x8192 r k).trans rfl

end

theorem rpay3 (v0 : Vec Ideal S16384x8192 .bf16) (r : Fin 16384) (z : Fin 1) :
    k0_pay3 v0 (ix2 r z) = rexpo (rowT fun k : Fin 8192 => v0 (ix2 r k)) :=
  ((rpay3_def v0 (ix2 r z)).trans
    (congrArg (fun y : EReal => grexpo (F := Ideal) (FloatOps.mulf (F := Ideal) (φ := .f32) y (FloatOps.ofBits .f32 0x3B124925#32)))
      (rowMax_apply (k0_pay1 v0) reduces_S16384x8192_S16384 (.inl rfl) rfl shapeCasts_S16384_S16384x1 r z))).trans (grexpo_eq _)

theorem G1_apply (v0 : Vec Ideal S16384x8192 .bf16) (r : Fin 16384) (k : Fin 8192) :
    G1 v0 (ix2 r k) = clip (v0 (ix2 r k) * rinv (rowT fun k : Fin 8192 => v0 (ix2 r k))) := by
  unfold G1
  rw [rpay5_def, rpay3]
  rfl

theorem G2_apply (v0 : Vec Ideal S16384x8192 .bf16) (r : Fin 16384) (z : Fin 1) :
    G2 v0 (ix2 r z) = rscale (rowT fun k : Fin 8192 => v0 (ix2 r k)) := by
  unfold G2
  rw [rpay4_def, rpay3]
  rfl

end Reference

end Cert.QuantValue

end
-- ==== Proof.QuantValue.lean ====
/- The first call's two results: the kernel's arrays and the reference's are the same functions of the input. -/
module

public import proofs.«01_k».proof.Proof.QuantPay
public import proofs.«01_k».proof.Proof.QuantRefPay

@[expose] public section

set_option maxRecDepth 4096

noncomputable section

namespace Cert.QuantValue

open Idealize Idealize.ShloMosaic Idealize.ShloMosaic.TcCoe Idealize.SL.Sem Idealize.ShloMosaic.ValueIdx Cert.Quantiser Cert.Rows

/-! ## The kernel's arrays after the run -/

open Cert.QuantIdeal Cert.QuantIdeal.Gen Cert.QuantIdeal.Value

variable (m : (ℓ : Loc nD τ sig) → Buf (Elt Ideal) ℓ) (c : Dev nD)

/-- Every window's block index at point `t` is row block `t`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 64 := lt_of_lt_of_eq t.isLt (by decide : grid0.N = 64)

/-- Row `r` of row block `t`. -/
def row (t : Fin cfg0.N) (r : Fin 256) : Fin 16384 := ⟨t.val * 256 + r.val, by have := t_lt t; omega⟩

/-- The point whose block holds row `r`, -/
def pt (r : Fin 16384) : Fin cfg0.N := ⟨r.val / 256, by rw [show cfg0.N = 64 from (by decide : grid0.N = 64)]; omega⟩
/-- and the row's place in the block. -/
def lane (r : Fin 16384) : Fin 256 := ⟨r.val % 256, Nat.mod_lt _ (by omega)⟩
theorem row_pt (r : Fin 16384) : row (pt r) (lane r) = r :=
  Fin.ext (by show r.val / 256 * 256 + r.val % 256 = r.val; omega)

theorem emb0 (t : Fin cfg0.N) (r : Fin 256) (k : Fin 8192) : ((cfg0.win 0).blk t).view.emb (ix2 r k) = ix2 (row t r) k := by
  obtain ⟨e0, e1, -⟩ := idx0 t
  funext a; apply Fin.ext
  match a with
  | ⟨0, _⟩ => show win0_0.index t (0 : Fin 2) * 256 + 1 * r.val = t.val * 256 + r.val; omega
  | ⟨1, _⟩ => show win0_0.index t (1 : Fin 2) * 8192 + 1 * k.val = k.val; omega

theorem emb1 (t : Fin cfg0.N) (r : Fin 256) (k : Fin 8192) : ((cfg0.win 1).blk t).view.emb (ix2 r k) = ix2 (row t r) k := by
  obtain ⟨-, -, e0, e1, -⟩ := idx0 t
  funext a; apply Fin.ext
  match a with
  | ⟨0, _⟩ => show win0_1.index t (0 : Fin 2) * 256 + 1 * r.val = t.val * 256 + r.val; omega
  | ⟨1, _⟩ => show win0_1.index t (1 : Fin 2) * 8192 + 1 * k.val = k.val; omega

theorem emb2 (t : Fin cfg0.N) (r : Fin 256) (z : Fin 1) : ((cfg0.win 2).blk t).view.emb (ix2 r z) = ix2 (row t r) z := by
  obtain ⟨-, -, -, -, e0, e1⟩ := idx0 t
  funext a; apply Fin.ext
  match a with
  | ⟨0, _⟩ => show win0_2.index t (0 : Fin 2) * 256 + 1 * r.val = t.val * 256 + r.val; omega
  | ⟨1, _⟩ => show win0_2.index t (1 : Fin 2) * 1 + 1 * z.val = z.val; omega

theorem read0 (t : Fin cfg0.N) (X : Vec Ideal S16384x8192 .bf16) (r : Fin 256) (k : Fin 8192) :
    ((cfg0.win 0).blk t).view.read (Elt Ideal) X (ix2 r k) = X (ix2 (row t r) k) := by
  show X (((cfg0.win 0).blk t).view.emb (ix2 r k)) = _
  rw [emb0]

theorem iblk0_apply (t : Fin cfg0.N) (r : Fin 256) (k : Fin 8192) :
    iblk m c 0 t (ix2 r k) = m ((c : Thread nD τ).loc main_arg0) (ix2 (row t r) k) :=
  read0 t (m ((c : Thread nD τ).loc main_arg0)) r k

/-- A block that is `G` at its rows of the array is what is written back of `G`. -/
theorem block1 (t : Fin cfg0.N) (X : Vec Ideal S256x8192 .fp8e4m3) (G : Vec Ideal S16384x8192 .fp8e4m3)
    (h : ∀ (r : Fin 256) (k : Fin 8192), X (ix2 r k) = G (ix2 (row t r) k)) :
    (cfg0.win 1).cut (grid0.coords t) X = ((cfg0.win 1).blk t).view.read (Elt Ideal) G := by
  funext j
  show X j = G (((cfg0.win 1).blk t).view.emb j)
  obtain ⟨r, k, rfl⟩ : ∃ (r : Fin 256) (k : Fin 8192), j = ix2 r k := ⟨j 0, j 1, eq_ix2 j⟩
  exact (h r k).trans (congrArg G (emb1 t r k).symm)

/-- A block that is `G` at its rows of the array is what is written back of `G`. -/
theorem block2 (t : Fin cfg0.N) (X : Vec Ideal S256x1 .f32) (G : Vec Ideal S16384x1 .f32)
    (h : ∀ (r : Fin 256) (z : Fin 1), X (ix2 r z) = G (ix2 (row t r) z)) :
    (cfg0.win 2).cut (grid0.coords t) X = ((cfg0.win 2).blk t).view.read (Elt Ideal) G := by
  funext j
  show X j = G (((cfg0.win 2).blk t).view.emb j)
  obtain ⟨r, z, rfl⟩ : ∃ (r : Fin 256) (z : Fin 1), j = ix2 r z := ⟨j 0, j 1, eq_ix2 j⟩
  exact (h r z).trans (congrArg G (emb2 t r z).symm)

/-- The codes array after the run is the reference's function of the input. -/
theorem codes_eq : (dats m 0 c).arrAt 1 cfg0.N
    = Cert.QuantReferenceIdeal.Value.G1 (F := Ideal) (m ((c : Thread nD τ).loc main_arg0)) := by
  refine (dats m 0 c).arrAt_eq_of_cover 1 (Cert.QuantReferenceIdeal.Value.G1 (F := Ideal) (m ((c : Thread nD τ).loc main_arg0)))
    (fun t _ => ?_) fun i => ?_
  · refine (flushed1 m c t).trans (block1 t _ _ fun r k => ?_)
    rw [out1_apply, G1_apply]
    simp only [iblk0_apply]
  · obtain ⟨r, k, rfl⟩ : ∃ (r : Fin 16384) (k : Fin 8192), i = ix2 r k := ⟨i 0, i 1, eq_ix2 i⟩
    refine ⟨pt r, flush0_1 _, ?_⟩
    have e : ((cfg0.win 1).blk (pt r)).view.emb (ix2 (lane r) k) = ix2 r k := by rw [emb1, row_pt]
    rw [← e]
    exact ((cfg0.win 1).blk (pt r)).view.emb_mem_set _

/-- The scale array after the run is the reference's function of the input. -/
theorem scale_eq : (dats m 0 c).arrAt 2 cfg0.N
    = Cert.QuantReferenceIdeal.Value.G2 (F := Ideal) (m ((c : Thread nD τ).loc main_arg0)) := by
  refine (dats m 0 c).arrAt_eq_of_cover 2 (Cert.QuantReferenceIdeal.Value.G2 (F := Ideal) (m ((c : Thread nD τ).loc main_arg0)))
    (fun t _ => ?_) fun i => ?_
  · refine (flushed2 m c t).trans (block2 t _ _ fun r z => ?_)
    rw [out2_apply, G2_apply]
    simp only [iblk0_apply]
  · obtain ⟨r, z, rfl⟩ : ∃ (r : Fin 16384) (z : Fin 1), i = ix2 r z := ⟨i 0, i 1, eq_ix2 i⟩
    refine ⟨pt r, flush0_2 _, ?_⟩
    have e : ((cfg0.win 2).blk (pt r)).view.emb (ix2 (lane r) z) = ix2 r z := by rw [emb2, row_pt]
    rw [← e]
    exact ((cfg0.win 2).blk (pt r)).view.emb_mem_set _

end Cert.QuantValue

end
-- ==== Proof.GateConds.lean ====
/- The conditions of the gate/up body's branches over the grid points, and the memrefs the body is called with. -/
module

public import proofs.«01_k».proof.Proof.Gen.GateUpIdeal.Skeleton
public import proofs.«01_k».proof.Proof.Gen.GateUpIdeal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.GateUpIdeal.Body

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 32) — by arithmetic of the point. -/
theorem hcond0_0 : ∀ t : Fin cfg0.N, cond0_0 (grid0.coords t) ↔ t.val % 32 = 0 :=
  (fun t => by
    have ht : t.val < 1024 := Nat.lt_of_lt_of_eq t.isLt N_0
    have e0 : (grid0.coords t 0).val = t.val / 32 % 32 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 32 :=
  (by decide +kernel : ∀ t : Fin grid0.N, cond0_1 (grid0.coords t) ↔ 1 ≤ t.val % 32)

/-- The condition of the body's `scf.if` 2 (`k0_h3`), from the grid coordinates (the skeleton's scalar
    chain substituted). -/
abbrev cond0_2 (i : grid0.Coords) : Prop := k0_cond3 i = 1#1
/-- It holds at the points ≡ 31 (mod 32) — by arithmetic of the point. -/
theorem hcond0_2 : ∀ t : Fin cfg0.N, cond0_2 (grid0.coords t) ↔ t.val % 32 = 31 :=
  (fun t => by
    have ht : t.val < 1024 := Nat.lt_of_lt_of_eq t.isLt N_0
    have e0 : (grid0.coords t 0).val = t.val / 32 % 32 := Pipeline.Grid.coords_val t 0 (by decide) rfl
    have e1 : (grid0.coords t 1).val = t.val / 1 % 32 := Pipeline.Grid.coords_val t 1 (by decide) rfl
    simp only [cond0_2, k0_cond3, e0, e1]
    word_cmp
   : ∀ t : Fin grid0.N, cond0_2 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x8192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x8192 .f32 := Memref.whole cc0_scratch0
abbrev scM0_1 : Memref sig .tc .vmem S512x1 .f32 := Memref.whole cc0_scratch1
/-- The scratch `arg11` the kernel carries between points, as a view: what it holds is stated through it. -/
abbrev VS0_1 : View sig .tc .vmem S512x1 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.GateUpIdeal.Body

end
-- ==== Proof.GateRunA.lean ====
/- The gate/up body run at the first column block of a row block. -/
module

public import proofs.«01_k».proof.Proof.GateConds

@[expose] public section

set_option maxRecDepth 16384

noncomputable section

namespace Cert.GateUpIdeal.Body

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run at the first column block of a row block: from the inputs' blocks and the scratch at any named contents to the inputs as they were,
    each scratch with the pieces the body stored written, and the outputs as they were. The pieces are the witness the run finds. -/
noncomputable def runA (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x8192 .fp8e4m3) (harg8 : arg8.IsWhole) (arg9 : Memref sig .tc .vmem S512x1 .f32) (harg9 : arg9.IsWhole) (arg10 : Memref sig .tc .vmem S512x8192 .f32) (harg10 : arg10.IsWhole) (arg11 : Memref sig .tc .vmem S512x1 .f32) (harg11 : arg11.IsWhole) (hc0 : cond0_0 i) (hc1 : ¬cond0_1 i) (hc2 : ¬cond0_2 i)
    (x0 : Vec F S512x8192 .fp8e4m3) (x1 : Vec F S512x1 .f32) (x2 : Vec F S8192x256 .fp8e4m3) (x3 : Vec F S8192x256 .fp8e4m3) (x4 : Vec F S1x256 .f32) (x5 : Vec F S1x256 .f32) (x6 : Vec F S512x8192 .fp8e4m3) (x7 : Vec F S512x1 .f32) (xs0 : Vec F S512x8192 .f32) (xs1 : Vec F S512x1 .f32) :
    { L : List (View.Piece (Elt F) S512x8192 .f32) × List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} arg10.view.writes (Elt F) (harg10.unread xs0) L.1) ∗ (∃ f, arg11.view.loc (c : Thread nD τ) ↦[arg11.view.set]{fullShare} arg11.view.writes (Elt F) f L.2)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨⟨?_, ?_⟩, fun E K => ?run⟩
  case run =>
    simp only [cc0_gate_up_eq_skeleton]; unfold cc0_gate_up_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexists _; iexact HS1

end Cert.GateUpIdeal.Body

end
-- ==== Proof.GateRunB.lean ====
/- The gate/up body run at a column block that is neither the first nor the last. -/
module

public import proofs.«01_k».proof.Proof.GateRunA

@[expose] public section

set_option maxRecDepth 16384

noncomputable section

namespace Cert.GateUpIdeal.Body

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run at a column block that is neither the first nor the last: from the inputs' blocks and the scratch at any named contents to the inputs as they were,
    each scratch with the pieces the body stored written, and the outputs as they were. The pieces are the witness the run finds. -/
noncomputable def runB (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x8192 .fp8e4m3) (harg8 : arg8.IsWhole) (arg9 : Memref sig .tc .vmem S512x1 .f32) (harg9 : arg9.IsWhole) (arg10 : Memref sig .tc .vmem S512x8192 .f32) (harg10 : arg10.IsWhole) (arg11 : Memref sig .tc .vmem S512x1 .f32) (harg11 : arg11.IsWhole) (hc0 : ¬cond0_0 i) (hc1 : cond0_1 i) (hc2 : ¬cond0_2 i)
    (x0 : Vec F S512x8192 .fp8e4m3) (x1 : Vec F S512x1 .f32) (x2 : Vec F S8192x256 .fp8e4m3) (x3 : Vec F S8192x256 .fp8e4m3) (x4 : Vec F S1x256 .f32) (x5 : Vec F S1x256 .f32) (x6 : Vec F S512x8192 .fp8e4m3) (x7 : Vec F S512x1 .f32) (xs0 : Vec F S512x8192 .f32) (xs1 : Vec F S512x1 .f32) :
    { L : List (View.Piece (Elt F) S512x8192 .f32) × List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} arg10.view.writes (Elt F) (harg10.unread xs0) L.1) ∗ (∃ f, arg11.view.loc (c : Thread nD τ) ↦[arg11.view.set]{fullShare} arg11.view.writes (Elt F) f L.2)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨⟨?_, ?_⟩, fun E K => ?run⟩
  case run =>
    simp only [cc0_gate_up_eq_skeleton]; unfold cc0_gate_up_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexists _; iexact HS1

end Cert.GateUpIdeal.Body

end
-- ==== Proof.GateRunC.lean ====
/- The gate/up body run at the last column block of a row block. -/
module

public import proofs.«01_k».proof.Proof.GateRunB

@[expose] public section

set_option maxRecDepth 16384

noncomputable section

namespace Cert.GateUpIdeal.Body

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run at the last column block of a row block: from the inputs' blocks and the scratch at any named contents to the inputs as they were,
    each scratch and each output with the pieces the body stored written. The pieces are the witness the run finds. -/
noncomputable def runC (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x8192 .fp8e4m3) (harg8 : arg8.IsWhole) (arg9 : Memref sig .tc .vmem S512x1 .f32) (harg9 : arg9.IsWhole) (arg10 : Memref sig .tc .vmem S512x8192 .f32) (harg10 : arg10.IsWhole) (arg11 : Memref sig .tc .vmem S512x1 .f32) (harg11 : arg11.IsWhole) (hc0 : ¬cond0_0 i) (hc1 : cond0_1 i) (hc2 : cond0_2 i)
    (x0 : Vec F S512x8192 .fp8e4m3) (x1 : Vec F S512x1 .f32) (x2 : Vec F S8192x256 .fp8e4m3) (x3 : Vec F S8192x256 .fp8e4m3) (x4 : Vec F S1x256 .f32) (x5 : Vec F S1x256 .f32) (xs0 : Vec F S512x8192 .f32) (xs1 : Vec F S512x1 .f32) :
    { L : List (View.Piece (Elt F) S512x8192 .f32) × List (View.Piece (Elt F) S512x1 .f32) × List (View.Piece (Elt F) S512x8192 .fp8e4m3) × List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L.2.2.1) ∗ (∃ f, arg9.view.loc (c : Thread nD τ) ↦[arg9.view.set]{fullShare} arg9.view.writes (Elt F) f L.2.2.2) ∗ (arg10.view.loc (c : Thread nD τ) ↦[arg10.view.set]{fullShare} arg10.view.writes (Elt F) (harg10.unread xs0) L.1) ∗ (∃ f, arg11.view.loc (c : Thread nD τ) ↦[arg11.view.set]{fullShare} arg11.view.writes (Elt F) f L.2.1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨⟨?_, ?_, ?_, ?_⟩, fun E K => ?run⟩
  case run =>
    simp only [cc0_gate_up_eq_skeleton]; unfold cc0_gate_up_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexact HS0
    iexists _; iexact HS1

end Cert.GateUpIdeal.Body

end
-- ==== Proof.GateReads.lean ====
/- What the gate/up body leaves in its scratch and its outputs, read off the pieces its runs found. -/
module

public import proofs.«01_k».proof.Proof.GateRunC

@[expose] public section

set_option maxRecDepth 16384

noncomputable section

namespace Cert.GateUpIdeal.Body

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column slice of the hidden row block the point writes, put over what the scratch held. -/
def put (i : grid0.Coords) (xs0 : Vec F S512x8192 .f32) (b : Vec F S512x256 .f32) : Vec F S512x8192 .f32 :=
  (Rect.unit (s := S512x8192) (k0_off1 i) S512x256.size (k0_off1_inb i)).overlay xs0 b

/-- The offsets of a whole-shape access are zero. -/
theorem off00 : (![0, 0] : Fin 2 → ℕ) = fun _ => 0 := by
  funext a; match a with | ⟨0, _⟩ => rfl | ⟨1, _⟩ => rfl

/-- One write through a rectangle over named contents reads as those contents overlaid. -/
theorem read_write_one {s : Shape} {e : EltTy} (mr : Memref sig .tc .vmem s e) (h : mr.IsWhole) (x : Vec F s e)
    (r : Rect s) (w : r.shape.Idx → Elt F e) :
    mr.view.read (Elt F) (mr.view.writes (Elt F) (h.unread x) [⟨r, w⟩]) = r.overlay x w := by
  funext y
  by_cases hy : y ∈ r.set
  · rw [← Rect.map_emb_univ] at hy
    obtain ⟨z, -, rfl⟩ := Finset.mem_map.mp hy
    rw [Rect.overlay_emb]; exact View.read_writes_cons_emb _ _ r w [] z
  · rw [Rect.overlay_of_not_mem _ _ _ hy, View.read_writes_cons_miss _ _ ⟨r, w⟩ [] y hy]
    exact congrFun (h.read_unread x) y

/-- One write through the whole shape over any contents reads as its payload. -/
theorem read_write_whole {s : Shape} {e : EltTy} (mr : Memref sig .tc .vmem s e) (f : mr.view.ty.Contents (Elt F))
    {off : Fin s.rank → ℕ} (ho : off = fun _ => 0) (inb : ∀ a, off a + s.size a ≤ s.size a) (w : Vec F s e) :
    mr.view.read (Elt F) (mr.view.writes (Elt F) f [(⟨Rect.unit off s.size inb, w⟩ : View.Piece (Elt F) s e)]) = w := by
  subst ho; funext y
  have hz : (Rect.whole s).emb y = y := by rw [Rect.emb_whole_apply]
  exact View.read_writes_cons_hit _ _ (Rect.whole s) w [] y y hz

/-- After the body (case A) the row-block scratch holds what it held with this point's slice put in. -/
theorem read0A (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x8192 .fp8e4m3) (harg8 : arg8.IsWhole) (arg9 : Memref sig .tc .vmem S512x1 .f32) (harg9 : arg9.IsWhole) (arg10 : Memref sig .tc .vmem S512x8192 .f32) (harg10 : arg10.IsWhole) (arg11 : Memref sig .tc .vmem S512x1 .f32) (harg11 : arg11.IsWhole) (hc0 : cond0_0 i) (hc1 : ¬cond0_1 i) (hc2 : ¬cond0_2 i)
    (x0 : Vec F S512x8192 .fp8e4m3) (x1 : Vec F S512x1 .f32) (x2 : Vec F S8192x256 .fp8e4m3) (x3 : Vec F S8192x256 .fp8e4m3) (x4 : Vec F S1x256 .f32) (x5 : Vec F S1x256 .f32) (x6 : Vec F S512x8192 .fp8e4m3) (x7 : Vec F S512x1 .f32) (xs0 : Vec F S512x8192 .f32) (xs1 : Vec F S512x1 .f32) :
    arg10.view.read (Elt F) (arg10.view.writes (Elt F) (harg10.unread xs0) (runA c i arg2 harg2 arg3 harg3 arg4 harg4 arg5 harg5 arg6 harg6 arg7 harg7 arg8 harg8 arg9 harg9 arg10 harg10 arg11 harg11 hc0 hc1 hc2 x0 x1 x2 x3 x4 x5 x6 x7 xs0 xs1).1.1) = put i xs0 (k0_pay11 x0 x1 x2 x4 x3 x5) := by
  unfold runA; dsimp only
  sl_unfold_words
  rw [read_write_one]; unfold put
  simp only [View.readAt_eq_ld, harg2.read_unread, harg3.read_unread, harg4.read_unread, harg5.read_unread, harg6.read_unread, harg7.read_unread, harg11.read_unread, View.ld_unit_zero (S := S512x8192) off00, View.ld_unit_zero (S := S512x1) off00, View.ld_unit_zero (S := S8192x256) off00, View.ld_unit_zero (S := S1x256) off00]; rfl

/-- After the body (case A) the row-maximum scratch holds the new maximum. -/
theorem read1A (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x8192 .fp8e4m3) (harg8 : arg8.IsWhole) (arg9 : Memref sig .tc .vmem S512x1 .f32) (harg9 : arg9.IsWhole) (arg10 : Memref sig .tc .vmem S512x8192 .f32) (harg10 : arg10.IsWhole) (arg11 : Memref sig .tc .vmem S512x1 .f32) (harg11 : arg11.IsWhole) (hc0 : cond0_0 i) (hc1 : ¬cond0_1 i) (hc2 : ¬cond0_2 i)
    (x0 : Vec F S512x8192 .fp8e4m3) (x1 : Vec F S512x1 .f32) (x2 : Vec F S8192x256 .fp8e4m3) (x3 : Vec F S8192x256 .fp8e4m3) (x4 : Vec F S1x256 .f32) (x5 : Vec F S1x256 .f32) (x6 : Vec F S512x8192 .fp8e4m3) (x7 : Vec F S512x1 .f32) (xs0 : Vec F S512x8192 .f32) (xs1 : Vec F S512x1 .f32) :
    ∀ f, arg11.view.read (Elt F) (arg11.view.writes (Elt F) f (runA c i arg2 harg2 arg3 harg3 arg4 harg4 arg5 harg5 arg6 harg6 arg7 harg7 arg8 harg8 arg9 harg9 arg10 harg10 arg11 harg11 hc0 hc1 hc2 x0 x1 x2 x3 x4 x5 x6 x7 xs0 xs1).1.2) = k0_pay13 x0 x1 x2 x4 x3 x5 := by
  intro f
  unfold runA; dsimp only
  sl_unfold_words
  rw [read_write_whole _ _ off00]
  simp only [View.readAt_eq_ld, harg2.read_unread, harg3.read_unread, harg4.read_unread, harg5.read_unread, harg6.read_unread, harg7.read_unread, harg11.read_unread, View.ld_unit_zero (S := S512x8192) off00, View.ld_unit_zero (S := S512x1) off00, View.ld_unit_zero (S := S8192x256) off00, View.ld_unit_zero (S := S1x256) off00]

/-- After the body (case B) the row-block scratch holds what it held with this point's slice put in. -/
theorem read0B (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x8192 .fp8e4m3) (harg8 : arg8.IsWhole) (arg9 : Memref sig .tc .vmem S512x1 .f32) (harg9 : arg9.IsWhole) (arg10 : Memref sig .tc .vmem S512x8192 .f32) (harg10 : arg10.IsWhole) (arg11 : Memref sig .tc .vmem S512x1 .f32) (harg11 : arg11.IsWhole) (hc0 : ¬cond0_0 i) (hc1 : cond0_1 i) (hc2 : ¬cond0_2 i)
    (x0 : Vec F S512x8192 .fp8e4m3) (x1 : Vec F S512x1 .f32) (x2 : Vec F S8192x256 .fp8e4m3) (x3 : Vec F S8192x256 .fp8e4m3) (x4 : Vec F S1x256 .f32) (x5 : Vec F S1x256 .f32) (x6 : Vec F S512x8192 .fp8e4m3) (x7 : Vec F S512x1 .f32) (xs0 : Vec F S512x8192 .f32) (xs1 : Vec F S512x1 .f32) :
    arg10.view.read (Elt F) (arg10.view.writes (Elt F) (harg10.unread xs0) (runB c i arg2 harg2 arg3 harg3 arg4 harg4 arg5 harg5 arg6 harg6 arg7 harg7 arg8 harg8 arg9 harg9 arg10 harg10 arg11 harg11 hc0 hc1 hc2 x0 x1 x2 x3 x4 x5 x6 x7 xs0 xs1).1.1) = put i xs0 (k0_pay11 x0 x1 x2 x4 x3 x5) := by
  unfold runB; dsimp only
  sl_unfold_words
  rw [read_write_one]; unfold put
  simp only [View.readAt_eq_ld, harg2.read_unread, harg3.read_unread, harg4.read_unread, harg5.read_unread, harg6.read_unread, harg7.read_unread, harg11.read_unread, View.ld_unit_zero (S := S512x8192) off00, View.ld_unit_zero (S := S512x1) off00, View.ld_unit_zero (S := S8192x256) off00, View.ld_unit_zero (S := S1x256) off00]; rfl

/-- After the body (case B) the row-maximum scratch holds the new maximum. -/
theorem read1B (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x8192 .fp8e4m3) (harg8 : arg8.IsWhole) (arg9 : Memref sig .tc .vmem S512x1 .f32) (harg9 : arg9.IsWhole) (arg10 : Memref sig .tc .vmem S512x8192 .f32) (harg10 : arg10.IsWhole) (arg11 : Memref sig .tc .vmem S512x1 .f32) (harg11 : arg11.IsWhole) (hc0 : ¬cond0_0 i) (hc1 : cond0_1 i) (hc2 : ¬cond0_2 i)
    (x0 : Vec F S512x8192 .fp8e4m3) (x1 : Vec F S512x1 .f32) (x2 : Vec F S8192x256 .fp8e4m3) (x3 : Vec F S8192x256 .fp8e4m3) (x4 : Vec F S1x256 .f32) (x5 : Vec F S1x256 .f32) (x6 : Vec F S512x8192 .fp8e4m3) (x7 : Vec F S512x1 .f32) (xs0 : Vec F S512x8192 .f32) (xs1 : Vec F S512x1 .f32) :
    ∀ f, arg11.view.read (Elt F) (arg11.view.writes (Elt F) f (runB c i arg2 harg2 arg3 harg3 arg4 harg4 arg5 harg5 arg6 harg6 arg7 harg7 arg8 harg8 arg9 harg9 arg10 harg10 arg11 harg11 hc0 hc1 hc2 x0 x1 x2 x3 x4 x5 x6 x7 xs0 xs1).1.2) = k0_pay14 x0 x1 x2 x4 x3 x5 xs1 := by
  intro f
  unfold runB; dsimp only
  sl_unfold_words
  rw [read_write_whole _ _ off00]
  simp only [View.readAt_eq_ld, harg2.read_unread, harg3.read_unread, harg4.read_unread, harg5.read_unread, harg6.read_unread, harg7.read_unread, harg11.read_unread, View.ld_unit_zero (S := S512x8192) off00, View.ld_unit_zero (S := S512x1) off00, View.ld_unit_zero (S := S8192x256) off00, View.ld_unit_zero (S := S1x256) off00]

/-- After the body (case C) the row-block scratch holds what it held with this point's slice put in. -/
theorem read0C (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x8192 .fp8e4m3) (harg8 : arg8.IsWhole) (arg9 : Memref sig .tc .vmem S512x1 .f32) (harg9 : arg9.IsWhole) (arg10 : Memref sig .tc .vmem S512x8192 .f32) (harg10 : arg10.IsWhole) (arg11 : Memref sig .tc .vmem S512x1 .f32) (harg11 : arg11.IsWhole) (hc0 : ¬cond0_0 i) (hc1 : cond0_1 i) (hc2 : cond0_2 i)
    (x0 : Vec F S512x8192 .fp8e4m3) (x1 : Vec F S512x1 .f32) (x2 : Vec F S8192x256 .fp8e4m3) (x3 : Vec F S8192x256 .fp8e4m3) (x4 : Vec F S1x256 .f32) (x5 : Vec F S1x256 .f32) (xs0 : Vec F S512x8192 .f32) (xs1 : Vec F S512x1 .f32) :
    arg10.view.read (Elt F) (arg10.view.writes (Elt F) (harg10.unread xs0) (runC c i arg2 harg2 arg3 harg3 arg4 harg4 arg5 harg5 arg6 harg6 arg7 harg7 arg8 harg8 arg9 harg9 arg10 harg10 arg11 harg11 hc0 hc1 hc2 x0 x1 x2 x3 x4 x5 xs0 xs1).1.1) = put i xs0 (k0_pay11 x0 x1 x2 x4 x3 x5) := by
  unfold runC; dsimp only
  sl_unfold_words
  rw [read_write_one]; unfold put
  simp only [View.readAt_eq_ld, harg2.read_unread, harg3.read_unread, harg4.read_unread, harg5.read_unread, harg6.read_unread, harg7.read_unread, harg11.read_unread, View.ld_unit_zero (S := S512x8192) off00, View.ld_unit_zero (S := S512x1) off00, View.ld_unit_zero (S := S8192x256) off00, View.ld_unit_zero (S := S1x256) off00]; rfl

/-- After the body (case C) the row-maximum scratch holds the new maximum. -/
theorem read1C (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x8192 .fp8e4m3) (harg8 : arg8.IsWhole) (arg9 : Memref sig .tc .vmem S512x1 .f32) (harg9 : arg9.IsWhole) (arg10 : Memref sig .tc .vmem S512x8192 .f32) (harg10 : arg10.IsWhole) (arg11 : Memref sig .tc .vmem S512x1 .f32) (harg11 : arg11.IsWhole) (hc0 : ¬cond0_0 i) (hc1 : cond0_1 i) (hc2 : cond0_2 i)
    (x0 : Vec F S512x8192 .fp8e4m3) (x1 : Vec F S512x1 .f32) (x2 : Vec F S8192x256 .fp8e4m3) (x3 : Vec F S8192x256 .fp8e4m3) (x4 : Vec F S1x256 .f32) (x5 : Vec F S1x256 .f32) (xs0 : Vec F S512x8192 .f32) (xs1 : Vec F S512x1 .f32) :
    ∀ f, arg11.view.read (Elt F) (arg11.view.writes (Elt F) f (runC c i arg2 harg2 arg3 harg3 arg4 harg4 arg5 harg5 arg6 harg6 arg7 harg7 arg8 harg8 arg9 harg9 arg10 harg10 arg11 harg11 hc0 hc1 hc2 x0 x1 x2 x3 x4 x5 xs0 xs1).1.2.1) = k0_pay14 x0 x1 x2 x4 x3 x5 xs1 := by
  intro f
  unfold runC; dsimp only
  sl_unfold_words
  rw [read_write_whole _ _ off00]
  simp only [View.readAt_eq_ld, harg2.read_unread, harg3.read_unread, harg4.read_unread, harg5.read_unread, harg6.read_unread, harg7.read_unread, harg11.read_unread, View.ld_unit_zero (S := S512x8192) off00, View.ld_unit_zero (S := S512x1) off00, View.ld_unit_zero (S := S8192x256) off00, View.ld_unit_zero (S := S1x256) off00]

/-- The quantiser's exponent mask of a row maximum. -/
def qm (a : Vec F S512x1 .f32) : IVec S512x1 1 := k0_pay8 (k0_pay4 a) (k0_pay5 a) (k0_pay6 a) 23#32
/-- The quantiser's unmasked exponent of a row maximum. -/
def qe (a : Vec F S512x1 .f32) : IVec S512x1 32 := k0_pay9 (k0_pay4 a) (k0_pay5 a) (k0_pay6 a) 23#32

/-- At the last column block the codes' block is the quantised row block. -/
theorem read6C (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x8192 .fp8e4m3) (harg8 : arg8.IsWhole) (arg9 : Memref sig .tc .vmem S512x1 .f32) (harg9 : arg9.IsWhole) (arg10 : Memref sig .tc .vmem S512x8192 .f32) (harg10 : arg10.IsWhole) (arg11 : Memref sig .tc .vmem S512x1 .f32) (harg11 : arg11.IsWhole) (hc0 : ¬cond0_0 i) (hc1 : cond0_1 i) (hc2 : cond0_2 i)
    (x0 : Vec F S512x8192 .fp8e4m3) (x1 : Vec F S512x1 .f32) (x2 : Vec F S8192x256 .fp8e4m3) (x3 : Vec F S8192x256 .fp8e4m3) (x4 : Vec F S1x256 .f32) (x5 : Vec F S1x256 .f32) (xs0 : Vec F S512x8192 .f32) (xs1 : Vec F S512x1 .f32) :
    ∀ f, arg8.view.read (Elt F) (arg8.view.writes (Elt F) f (runC c i arg2 harg2 arg3 harg3 arg4 harg4 arg5 harg5 arg6 harg6 arg7 harg7 arg8 harg8 arg9 harg9 arg10 harg10 arg11 harg11 hc0 hc1 hc2 x0 x1 x2 x3 x4 x5 xs0 xs1).1.2.2.1) = k0_pay3 (qm (k0_pay14 x0 x1 x2 x4 x3 x5 xs1)) (qe (k0_pay14 x0 x1 x2 x4 x3 x5 xs1)) (put i xs0 (k0_pay11 x0 x1 x2 x4 x3 x5)) := by
  intro f
  unfold runC; dsimp only
  sl_unfold_words
  refine (read_write_whole (s := S512x8192) arg8 f off00 _ _).trans ?_
  unfold qm qe
  simp only [View.readCov_unit_zero (S := S512x1) _ off00, View.readAt_eq_ld, harg2.read_unread, harg3.read_unread, harg4.read_unread, harg5.read_unread, harg6.read_unread, harg7.read_unread, harg11.read_unread, View.ld_unit_zero (S := S512x8192) off00, View.ld_unit_zero (S := S512x1) off00, View.ld_unit_zero (S := S8192x256) off00, View.ld_unit_zero (S := S1x256) off00]
  refine congrArg (k0_pay3 _ _) ?_
  rw [read_write_one]; rfl

/-- At the last column block the scale's block is the row maximum's scale. -/
theorem read7C (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x8192 .fp8e4m3) (harg8 : arg8.IsWhole) (arg9 : Memref sig .tc .vmem S512x1 .f32) (harg9 : arg9.IsWhole) (arg10 : Memref sig .tc .vmem S512x8192 .f32) (harg10 : arg10.IsWhole) (arg11 : Memref sig .tc .vmem S512x1 .f32) (harg11 : arg11.IsWhole) (hc0 : ¬cond0_0 i) (hc1 : cond0_1 i) (hc2 : cond0_2 i)
    (x0 : Vec F S512x8192 .fp8e4m3) (x1 : Vec F S512x1 .f32) (x2 : Vec F S8192x256 .fp8e4m3) (x3 : Vec F S8192x256 .fp8e4m3) (x4 : Vec F S1x256 .f32) (x5 : Vec F S1x256 .f32) (xs0 : Vec F S512x8192 .f32) (xs1 : Vec F S512x1 .f32) :
    ∀ f, arg9.view.read (Elt F) (arg9.view.writes (Elt F) f (runC c i arg2 harg2 arg3 harg3 arg4 harg4 arg5 harg5 arg6 harg6 arg7 harg7 arg8 harg8 arg9 harg9 arg10 harg10 arg11 harg11 hc0 hc1 hc2 x0 x1 x2 x3 x4 x5 xs0 xs1).1.2.2.2) = k0_pay2 (qm (k0_pay14 x0 x1 x2 x4 x3 x5 xs1)) (qe (k0_pay14 x0 x1 x2 x4 x3 x5 xs1)) := by
  intro f
  unfold runC; dsimp only
  sl_unfold_words
  refine (read_write_whole (s := S512x1) arg9 f off00 _ _).trans ?_
  unfold qm qe
  simp only [View.readCov_unit_zero (S := S512x1) _ off00, View.readAt_eq_ld, harg2.read_unread, harg3.read_unread, harg4.read_unread, harg5.read_unread, harg6.read_unread, harg7.read_unread, harg11.read_unread, View.ld_unit_zero (S := S512x8192) off00, View.ld_unit_zero (S := S512x1) off00, View.ld_unit_zero (S := S8192x256) off00, View.ld_unit_zero (S := S1x256) off00]

end Cert.GateUpIdeal.Body

end
-- ==== Proof.GateFill.lean ====
/- What the gate/up body's two scratches hold point by point: the row block filled so far and its running row maximum. -/
module

public import Idealize.ShloMosaic.Lib.ValueIdxCore
public import proofs.«01_k».proof.Proof.GateReads

@[expose] public section

set_option maxRecDepth 16384

noncomputable section

namespace Cert.GateUpIdeal.Body

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid point numbered `s`. -/
def pt (s : ℕ) : Fin cfg0.N := ⟨s % 1024, lt_of_lt_of_eq (Nat.mod_lt _ (by omega)) (show 1024 = cfg0.N from N_0.symm)⟩

theorem pt_val (t : Fin cfg0.N) : pt t.val = t :=
  Fin.ext (Nat.mod_eq_of_lt (lt_of_lt_of_eq t.isLt (show cfg0.N = 1024 from N_0)))

/-- The 512×256 block of hidden values computed at point `t`. -/
def hblk (c : Dev nD) (t : Fin cfg0.N) : Vec F S512x256 .f32 :=
  k0_pay11 (iblk m c 0 t) (iblk m c 1 t) (iblk m c 2 t) (iblk m c 4 t) (iblk m c 3 t) (iblk m c 5 t)

/-- The hidden values of row block `b`, all 8192 columns: column `q` is computed at the row block's point `q / 256`. -/
def hrow (c : Dev nD) (b : ℕ) : Vec F S512x8192 .f32 := fun y =>
  hblk m c (pt (32 * b + (y 1).val / 256)) (ValueIdx.ix2 (n0 := 512) (n1 := 256) (y 0) ⟨(y 1).val % 256, Nat.mod_lt _ (by omega)⟩)

/-- The running row maximum after point `n`: fresh at the first column block of a row block. -/
def amaxAt (c : Dev nD) : ℕ → Vec F S512x1 .f32
  | 0 => k0_pay13 (iblk m c 0 (pt 0)) (iblk m c 1 (pt 0)) (iblk m c 2 (pt 0)) (iblk m c 4 (pt 0)) (iblk m c 3 (pt 0)) (iblk m c 5 (pt 0))
  | n + 1 => if (n + 1) % 32 = 0 then
      k0_pay13 (iblk m c 0 (pt (n + 1))) (iblk m c 1 (pt (n + 1))) (iblk m c 2 (pt (n + 1))) (iblk m c 4 (pt (n + 1))) (iblk m c 3 (pt (n + 1))) (iblk m c 5 (pt (n + 1)))
    else
      k0_pay14 (iblk m c 0 (pt (n + 1))) (iblk m c 1 (pt (n + 1))) (iblk m c 2 (pt (n + 1))) (iblk m c 4 (pt (n + 1))) (iblk m c 3 (pt (n + 1))) (iblk m c 5 (pt (n + 1))) (amaxAt c n)

theorem amaxAt_first (c : Dev nD) (t : Fin cfg0.N) (h : t.val % 32 = 0) :
    amaxAt m c t.val = k0_pay13 (iblk m c 0 t) (iblk m c 1 t) (iblk m c 2 t) (iblk m c 4 t) (iblk m c 3 t) (iblk m c 5 t) := by
  have e := pt_val t
  obtain ⟨n, hn⟩ := t
  dsimp only at h e ⊢
  cases n with
  | zero => unfold amaxAt; rw [e]
  | succ n => unfold amaxAt; rw [if_pos h, e]

theorem amaxAt_next (c : Dev nD) (t : Fin cfg0.N) (h : t.val % 32 ≠ 0) :
    amaxAt m c t.val = k0_pay14 (iblk m c 0 t) (iblk m c 1 t) (iblk m c 2 t) (iblk m c 4 t) (iblk m c 3 t) (iblk m c 5 t) (amaxAt m c (t.val - 1)) := by
  have e := pt_val t
  obtain ⟨n, hn⟩ := t
  dsimp only at h e ⊢
  cases n with
  | zero => exact absurd (Nat.zero_mod _) h
  | succ n => rw [amaxAt, if_neg h, e, Nat.add_sub_cancel]

/-- The row-block scratch's first `k` columns hold row block `b`'s hidden values. -/
def Filled (c : Dev nD) (b k : ℕ) (xs0 : Vec F S512x8192 .f32) : Prop :=
  ∀ y : S512x8192.Idx, (y 1).val < k → xs0 y = hrow m c b y

/-- The slice point `t` writes starts at row 0 and column 256 times the point's column block. -/
theorem off1_0 (t : Fin cfg0.N) : k0_off1 (grid0.coords t) 0 = 0 := rfl
theorem off1_1 : ∀ t : Fin cfg0.N, k0_off1 (grid0.coords t) 1 = 256 * (t.val % 32) :=
  (by decide +kernel : ∀ t : Fin grid0.N, k0_off1 (grid0.coords t) 1 = 256 * (t.val % 32))

/-- Writing point `t`'s slice fills the next 256 columns. -/
theorem filled_put (c : Dev nD) (t : Fin cfg0.N) (xs0 : Vec F S512x8192 .f32) (h : Filled m c (t.val / 32) (256 * (t.val % 32)) xs0) :
    Filled m c (t.val / 32) (256 * (t.val % 32 + 1)) (put (grid0.coords t) xs0 (hblk m c t)) := by
  intro y hy
  unfold put
  have hy1 : (y 1).val < 8192 := (y 1).isLt
  by_cases hlt : (y 1).val < 256 * (t.val % 32)
  · rw [Rect.overlay_of_not_mem _ _ _ (Rect.not_mem_set_of_axis _ y 1 (256 * (t.val % 32)) 256 (off1_1 t) rfl rfl (Or.inl hlt))]
    exact h y hlt
  · have hx : (Rect.unit (s := S512x8192) (k0_off1 (grid0.coords t)) S512x256.size (k0_off1_inb (grid0.coords t))).emb
        (ValueIdx.ix2 (n0 := 512) (n1 := 256) (y 0) ⟨(y 1).val % 256, Nat.mod_lt _ (by omega)⟩) = y := by
      refine Rect.emb_eq_of_coords _ _ _ fun a => ?_
      match a with
      | ⟨0, _⟩ => show (y 0).val = k0_off1 (grid0.coords t) 0 + 1 * (y 0).val; rw [off1_0]; omega
      | ⟨1, _⟩ => show (y 1).val = k0_off1 (grid0.coords t) 1 + 1 * ((y 1).val % 256); rw [off1_1]; omega
    have hb : pt (32 * (t.val / 32) + (y 1).val / 256) = t := by
      rw [show 32 * (t.val / 32) + (y 1).val / 256 = t.val by omega]; exact pt_val t
    conv_lhs => rw [← hx]
    rw [Rect.overlay_emb]
    unfold hrow; rw [hb]

/-- Within a row block, what point `t` filled is what the next point finds filled. -/
theorem filled_next (c : Dev nD) (t : Fin cfg0.N) (xs0 : Vec F S512x8192 .f32)
    (h : Filled m c (t.val / 32) (256 * (t.val % 32 + 1)) xs0) (hne : t.val % 32 ≠ 31) :
    Filled m c ((t.val + 1) / 32) (256 * ((t.val + 1) % 32)) xs0 := by
  rw [show (t.val + 1) / 32 = t.val / 32 by omega, show (t.val + 1) % 32 = t.val % 32 + 1 by omega]; exact h

/-- A row block filled to its last column is the row block. -/
theorem filled_full (c : Dev nD) (b : ℕ) (xs0 : Vec F S512x8192 .f32) (h : Filled m c b 8192 xs0) : xs0 = hrow m c b :=
  funext fun y => h y (y 1).isLt

end Cert.GateUpIdeal.Body

end
-- ==== Proof.GateBody.lean ====
/- The gate/up body obligation: the row-block scratch filled slice by slice, its running maximum, and the outputs at the last column block. -/
module

public import Idealize.ShloMosaic.Lib.Claim
public import proofs.«01_k».proof.Proof.GateFill

@[expose] public section

set_option maxRecDepth 16384

noncomputable section

namespace Cert.GateUpIdeal.Body

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n`: the row-block scratch filled up to the column block, the maximum scratch at what
    the point before left unless a row block starts, the generator register at some state. -/
def PhiS (c : Dev nD) (n : ℕ) : sProp 𝕄 :=
  iprop(((∃ xs0, ⌜Filled m c (n / 32) (256 * (n % 32)) xs0⌝ ∗ owns (c : Thread nD τ) scM0_0 fullShare xs0)
    ∗ (∃ xs1, ⌜n % 32 ≠ 0 → xs1 = amaxAt m c (n - 1)⌝ ∗ owns (c : Thread nD τ) scM0_1 fullShare xs1)) ∗ (∃ r, prngReg c r))

/-- The codes' block at a row block's last point. -/
def outCodes (c : Dev nD) (n : ℕ) : Vec F S512x8192 .fp8e4m3 :=
  k0_pay3 (qm (amaxAt m c n)) (qe (amaxAt m c n)) (hrow m c (n / 32))
/-- The scales' block at a row block's last point. -/
def outScale (c : Dev nD) (n : ℕ) : Vec F S512x1 .f32 :=
  k0_pay2 (F := F) (qm (amaxAt m c n)) (qe (amaxAt m c n))

/-- The proof data of the one pipeline on core `c`: inputs at their blocks, outputs at the row block's codes and scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outCodes m c t.val
    | ⟨7, _⟩ => outScale m c t.val
  Φ t := PhiS m c t.val
  q w := Pipeline.shareOf spec0 w
  owed _ := 0

/-- The arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outCodes m c t.val := by dsimp only [dats]
theorem after0_7 (c : Dev nD) (t : Fin cfg0.N) : (dats m 0 c).after 7 t = outScale m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Windows 6 and 7 are idle away from the last column block, -/
theorem idle0_6 (t : Fin cfg0.N) (h : ¬t.val % 32 = 31) : cfg0.idle 6 (grid0.coords t) = true := by
  show (!(k0_cond3 (grid0.coords t) == 1#1)) = true
  have : ¬k0_cond3 (grid0.coords t) = 1#1 := fun e => h ((hcond0_2 t).mp e)
  simp [this]
theorem idle0_7 (t : Fin cfg0.N) (h : ¬t.val % 32 = 31) : cfg0.idle 7 (grid0.coords t) = true := by
  show (!(k0_cond3 (grid0.coords t) == 1#1)) = true
  have : ¬k0_cond3 (grid0.coords t) = 1#1 := fun e => h ((hcond0_2 t).mp e)
  simp [this]
/-- and written at it. -/
theorem live0_6 (t : Fin cfg0.N) (h : t.val % 32 = 31) : cfg0.idle 6 (grid0.coords t) = false := by
  show (!(k0_cond3 (grid0.coords t) == 1#1)) = false
  have : k0_cond3 (grid0.coords t) = 1#1 := (hcond0_2 t).mpr h
  simp [this]
theorem live0_7 (t : Fin cfg0.N) (h : t.val % 32 = 31) : cfg0.idle 7 (grid0.coords t) = false := by
  show (!(k0_cond3 (grid0.coords t) == 1#1)) = false
  have : k0_cond3 (grid0.coords t) = 1#1 := (hcond0_2 t).mpr h
  simp [this]
theorem noflush0_6 (t : Fin cfg0.N) (h : ¬t.val % 32 = 31) : (cfg0.win 6).flush t = false := by
  rw [Bool.eq_false_iff]; exact fun e => h ((flush0_6 t).mp e)
theorem noflush0_7 (t : Fin cfg0.N) (h : ¬t.val % 32 = 31) : (cfg0.win 7).flush t = false := by
  rw [Bool.eq_false_iff]; exact fun e => h ((flush0_7 t).mp e)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN : t.val < 1024 := lt_of_lt_of_eq t.isLt (show cfg0.N = 1024 from N_0)
  rw [show (dats m 0 c).leavesExact 0 t = owns (c : Thread nD τ) (ms0_0 t) fullShare (iblk m c 0 t) from by
    unfold Dat.leavesExact; rw [liveAt0_0 t, after0_0]]
  rw [show (dats m 0 c).leavesExact 1 t = owns (c : Thread nD τ) (ms0_1 t) fullShare (iblk m c 1 t) from by
    unfold Dat.leavesExact; rw [liveAt0_1 t, after0_1]]
  rw [show (dats m 0 c).leavesExact 2 t = owns (c : Thread nD τ) (ms0_2 t) fullShare (iblk m c 2 t) from by
    unfold Dat.leavesExact; rw [liveAt0_2 t, after0_2]]
  rw [show (dats m 0 c).leavesExact 3 t = owns (c : Thread nD τ) (ms0_3 t) fullShare (iblk m c 3 t) from by
    unfold Dat.leavesExact; rw [liveAt0_3 t, after0_3]]
  rw [show (dats m 0 c).leavesExact 4 t = owns (c : Thread nD τ) (ms0_4 t) fullShare (iblk m c 4 t) from by
    unfold Dat.leavesExact; rw [liveAt0_4 t, after0_4]]
  rw [show (dats m 0 c).leavesExact 5 t = owns (c : Thread nD τ) (ms0_5 t) fullShare (iblk m c 5 t) from by
    unfold Dat.leavesExact; rw [liveAt0_5 t, after0_5]]
  unfold PhiS
  by_cases h0 : t.val % 32 = 0
  · have h1 : ¬1 ≤ t.val % 32 := by omega
    have h2 : ¬t.val % 32 = 31 := by omega
    rw [(dats m 0 c).leavesExact_idle 6 t (idle0_6 t h2) (noflush0_6 t h2), (dats m 0 c).leavesExact_idle 7 t (idle0_7 t h2) (noflush0_7 t h2)]
    iintro ⟨⟨⟨⟨%xs0, %hF, HS0⟩, ⟨%xs1, %hM, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) ((dats m 0 c).before 6 t d6) ((dats m 0 c).before 7 t d7) xs0 xs1).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, ⟨%es1, HS1⟩⟩
    isplitl [HS0 HS1 Hg]
    · isplitl [HS0 HS1]
      · isplitl [HS0]
        · iexists (put (grid0.coords t) xs0 (hblk m c t)); isplitr
          · ipureintro; refine filled_next m c t _ ?_ (by omega); exact filled_put m c t xs0 hF
          unfold owns; iexists _; isplitr
          swap; · iexact HS0
          ipureintro; exact read0A c _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) ((dats m 0 c).before 6 t d6) ((dats m 0 c).before 7 t d7) xs0 xs1
        iexists (amaxAt m c t.val); isplitr
        · ipureintro; intro _; rfl
        unfold owns; iexists _; isplitr
        swap; · iexact HS1
        ipureintro; refine (read1A c _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) ((dats m 0 c).before 6 t d6) ((dats m 0 c).before 7 t d7) xs0 xs1 _).trans ?_
        exact (amaxAt_first m c t h0).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexists d7; iexact H7
  · have h1 : 1 ≤ t.val % 32 := by omega
    by_cases h2 : t.val % 32 = 31
    · rw [show (dats m 0 c).leavesExact 6 t = owns (c : Thread nD τ) (ms0_6 t) fullShare (outCodes m c t.val) from by
          unfold Dat.leavesExact; rw [live0_6 t h2, after0_6]]
      rw [show (dats m 0 c).leavesExact 7 t = owns (c : Thread nD τ) (ms0_7 t) fullShare (outScale m c t.val) from by
          unfold Dat.leavesExact; rw [live0_7 t h2, after0_7]]
      iintro ⟨⟨⟨⟨%xs0, %hF, HS0⟩, ⟨%xs1, %hM, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c (grid0.coords t) _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) xs0 xs1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, HS0, ⟨%es1, HS1⟩⟩
      isplitl [HS0 HS1 Hg]
      · isplitl [HS0 HS1]
        · isplitl [HS0]
          · iexists (put (grid0.coords t) xs0 (hblk m c t)); isplitr
            · ipureintro; intro y hy; exfalso; omega
            unfold owns; iexists _; isplitr
            swap; · iexact HS0
            ipureintro; exact read0C c _ _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) xs0 xs1
          iexists (amaxAt m c t.val); isplitr
          · ipureintro; intro _; rfl
          unfold owns; iexists _; isplitr
          swap; · iexact HS1
          ipureintro; refine (read1C c _ _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) xs0 xs1 _).trans ?_
          rw [hM h0]; exact (amaxAt_next m c t h0).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; refine (read6C c _ _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) xs0 xs1 _).trans ?_
        unfold outCodes; rw [hM h0, ← amaxAt_next m c t h0]
        exact congrArg (k0_pay3 _ _) (filled_full m c _ _ (by have := filled_put m c t xs0 hF; rw [h2] at this; exact this))
      unfold owns; iexists _; isplitr
      swap; · iexact H7
      ipureintro; refine (read7C c _ _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) xs0 xs1 _).trans ?_
      unfold outScale; rw [hM h0, ← amaxAt_next m c t h0]
    · rw [(dats m 0 c).leavesExact_idle 6 t (idle0_6 t h2) (noflush0_6 t h2), (dats m 0 c).leavesExact_idle 7 t (idle0_7 t h2) (noflush0_7 t h2)]
      iintro ⟨⟨⟨⟨%xs0, %hF, HS0⟩, ⟨%xs1, %hM, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) ((dats m 0 c).before 6 t d6) ((dats m 0 c).before 7 t d7) xs0 xs1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, ⟨%es1, HS1⟩⟩
      isplitl [HS0 HS1 Hg]
      · isplitl [HS0 HS1]
        · isplitl [HS0]
          · iexists (put (grid0.coords t) xs0 (hblk m c t)); isplitr
            · ipureintro; refine filled_next m c t _ ?_ (by omega); exact filled_put m c t xs0 hF
            unfold owns; iexists _; isplitr
            swap; · iexact HS0
            ipureintro; exact read0B c _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) ((dats m 0 c).before 6 t d6) ((dats m 0 c).before 7 t d7) xs0 xs1
          iexists (amaxAt m c t.val); isplitr
          · ipureintro; intro _; rfl
          unfold owns; iexists _; isplitr
          swap; · iexact HS1
          ipureintro; refine (read1B c _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) ((dats m 0 c).before 6 t d6) ((dats m 0 c).before 7 t d7) xs0 xs1 _).trans ?_
          rw [hM h0]; exact (amaxAt_next m c t h0).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d0, HS0⟩, ⟨%d1, HS1⟩⟩, Hg⟩
  isplitl [HS0 HS1]
  · isplitl [HS0]
    · iexists d0; isplitr
      · ipureintro; intro y hy; exact absurd hy (Nat.not_lt_zero _)
      iexact HS0
    iexists d1; isplitr
    · ipureintro; intro h; exact absurd rfl h
    iexact HS1
  iexact Hg

/-- The invariant after the last point gives back what the launch handed. -/
theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨⟨⟨%d0, %h0, HS0⟩, ⟨%d1, %h1, HS1⟩⟩, Hg⟩
  isplitl [HS0 HS1]
  · isplitl [HS0]
    · iexists d0; iexact HS0
    iexists d1; iexact HS1
  iexact Hg

set_option backward.isDefEq.respectTransparency.types false in
/-- Every weakly fair execution terminates with the arrays at what the proof data says and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.GateUpIdeal.Body

end
-- ==== Proof.GateFrame.lean ====
/- The second call's frame on machine words: its program is, definition by definition, the one printed for the extended reals, so the frame proved there for every float type is this one's too. -/
module

public import proofs.«01_k».proof.Defs
public import proofs.«01_k».proof.Proof.GateBody
public import proofs.«01_k».proof.Proof.Gen.GateUp.Frame

@[expose] public section

set_option maxRecDepth 16384

noncomputable section

namespace Cert.GateFrame

open Idealize.ShloMosaic Idealize.SL.Sem

variable {F : FTy → Type} [FloatOps F]

/-- The two printings' kernel bodies are the same function. -/
theorem body_eq : @Cert.GateUp.cc0_gate_up F _ _ = @Cert.GateUpIdeal.cc0_gate_up F _ _ := by
  rfl

/-- So are their tables of bodies, -/
theorem bodies_eq : (Cert.GateUp.defs₀ (F := F)) = (Cert.GateUpIdeal.defs₀ (F := F)) := by
  unfold Cert.GateUp.defs₀ Cert.GateUpIdeal.defs₀
  refine congrArg _ ?_
  funext l a
  match l, a with
  | 0, (t, s) => rfl
  | ⟨_ + 1, h⟩, _ => exact absurd h (Nat.not_lt.2 (Nat.le_add_left _ _))

/-- and with the pipelines added. -/
theorem defs_eq : (Cert.GateUp.defs (F := F)) = (Cert.GateUpIdeal.defs (F := F)) :=
  congrArg (Pipeline.defs Cert.GateUp.pcfgs) bodies_eq

/-- The second call on machine words runs, leaves its arguments unchanged and ends with every counter at zero. -/
theorem frame : Cert.quiescent_GateUp := fun m g _ => by
  rw [defs_eq]
  exact Cert.GateUpIdeal.Body.frame (F := Bits) m g

end Cert.GateFrame

end
-- ==== Proof.Hidden.lean ====
/- One hidden value of the gated projection over the extended reals, and the largest absolute value of a row cut into pieces. -/
module

public import proofs.«01_k».proof.Proof.Rows

@[expose] public section

set_option maxRecDepth 4096

noncomputable section

namespace Cert.GateValue

open Idealize Idealize.ShloMosaic Idealize.ShloMosaic.TcCoe Idealize.SL.Sem Idealize.ShloMosaic.ValueIdx Cert.Quantiser Cert.Rows

/-- A dot product as a matrix product accumulates it from zero. -/
def dotp {n : ℕ} (x w : Fin n → EReal) : EReal := Ideal.ofBits .f32 0x00000000#32 + ∑ k : Fin n, x k * w k

/-- The hidden value: g · logistic g · u, where g and u are the two dot products scaled by the row's scale and the columns' scales. -/
def hid (d d' xs s s' : EReal) : EReal := d * xs * s * Ideal.logistic (d * xs * s) * (d' * xs * s')

/-- The same for any float type. -/
def ghid {F : FTy → Type} [FloatOps F] (d d' xs s s' : F .f32) : F .f32 :=
  FloatOps.mulf (FloatOps.mulf (FloatOps.mulf (FloatOps.mulf d xs) s) (FloatOps.logistic (FloatOps.mulf (FloatOps.mulf d xs) s)))
    (FloatOps.mulf (FloatOps.mulf d' xs) s')

theorem ghid_eq (d d' xs s s' : EReal) : ghid (F := Ideal) d d' xs s s' = hid d d' xs s s' := rfl

/-- A row's largest absolute value is at most `y` when every absolute value is. -/
theorem rowMax_le {n : ℕ} (v : Fin n → EReal) (y : EReal) : rowMax v ≤ y ↔ ∀ k, max (v k) (-(v k)) ≤ y := by
  unfold rowMax
  rw [Finset.fold_max_le]
  simp

end Cert.GateValue

end
-- ==== Proof.GatePay.lean ====
/- The second call's kernel: its payloads at an index of a block. -/
module

public import proofs.«01_k».proof.Proof.Hidden
public import proofs.«01_k».proof.Proof.GateBody

@[expose] public section

set_option maxRecDepth 4096

noncomputable section

namespace Cert.GateValue

open Idealize Idealize.ShloMosaic Idealize.ShloMosaic.TcCoe Idealize.SL.Sem Idealize.ShloMosaic.ValueIdx Cert.Quantiser Cert.Rows

open Cert.GateUpIdeal Cert.GateUpIdeal.Gen Cert.GateUpIdeal.Body

section

variable {F : FTy → Type} [FloatOps F]

theorem pay10_def (v0 : Vec F S512x8192 .fp8e4m3) (v1 : Vec F S512x1 .f32) (v2 : Vec F S8192x256 .fp8e4m3) (v6 : Vec F S1x256 .f32)
    (v9 : Vec F S8192x256 .fp8e4m3) (v13 : Vec F S1x256 .f32) (r : Fin 512) (k : Fin 256) :
    k0_pay10 v0 v1 v2 v6 v9 v13 (ix2 r k) = ghid
      (matmul (φ₁ := .fp8e4m3) (φ₂ := .fp8e4m3) dot_S512x8192_S8192x256_S512x256_1_0_0_1_n_n none v0 v2 (constant S512x256 .f32 0x00000000#32) (ix2 r k))
      (matmul (φ₁ := .fp8e4m3) (φ₂ := .fp8e4m3) dot_S512x8192_S8192x256_S512x256_1_0_0_1_n_n none v0 v9 (constant S512x256 .f32 0x00000000#32) (ix2 r k))
      (v1 (ix2 r (0 : Fin 1))) (v6 (ix2 (0 : Fin 1) k)) (v13 (ix2 (0 : Fin 1) k)) := by
  have e1 := spreadCol_apply v1 broadcasts_S512x1_S512x256 r k
  have e2 := spreadRow_apply v6 broadcasts_S1x256_S512x256 r k
  have e3 := spreadRow_apply v13 broadcasts_S1x256_S512x256 r k
  rw [← e1, ← e2, ← e3]
  rfl

theorem pay11_eq (v0 : Vec F S512x8192 .fp8e4m3) (v1 : Vec F S512x1 .f32) (v2 : Vec F S8192x256 .fp8e4m3) (v6 : Vec F S1x256 .f32)
    (v9 : Vec F S8192x256 .fp8e4m3) (v13 : Vec F S1x256 .f32) : k0_pay11 v0 v1 v2 v6 v9 v13 = k0_pay10 v0 v1 v2 v6 v9 v13 :=
  shapeCast_self _ _

theorem pay13_eq (v0 : Vec F S512x8192 .fp8e4m3) (v1 : Vec F S512x1 .f32) (v2 : Vec F S8192x256 .fp8e4m3) (v6 : Vec F S1x256 .f32)
    (v9 : Vec F S8192x256 .fp8e4m3) (v13 : Vec F S1x256 .f32) : k0_pay13 v0 v1 v2 v6 v9 v13 = k0_pay12 v0 v1 v2 v6 v9 v13 :=
  shapeCast_self _ _

theorem pay14_eq (v0 : Vec F S512x8192 .fp8e4m3) (v1 : Vec F S512x1 .f32) (v2 : Vec F S8192x256 .fp8e4m3) (v6 : Vec F S1x256 .f32)
    (v9 : Vec F S8192x256 .fp8e4m3) (v13 : Vec F S1x256 .f32) (a : Vec F S512x1 .f32) :
    k0_pay14 v0 v1 v2 v6 v9 v13 a = maximumf a (k0_pay12 v0 v1 v2 v6 v9 v13) :=
  shapeCast_self _ _

theorem pay4_def (a : Vec F S512x1 .f32) (j : S512x1.Idx) : k0_pay4 a j = FloatOps.mulf (a j) (FloatOps.ofBits .f32 0x3B124925#32) := rfl

theorem pay5_def (a : Vec F S512x1 .f32) (j : S512x1.Idx) :
    k0_pay5 a j = gstep (k0_pay4 a j) 16#32 (gstep (k0_pay4 a j) 32#32 (gstep (k0_pay4 a j) 64#32 (gstep (k0_pay4 a j) 128#32 0#32))) := rfl

theorem pay7_def (a : Vec F S512x1 .f32) (j : S512x1.Idx) :
    k0_pay7 (k0_pay4 a) (k0_pay5 a) (k0_pay6 a) 23#32 j
      = Scalar.select (FloatOps.cmpf .olt (k0_pay4 a j) (FloatOps.ofBits .f32 0x7E800000#32))
        (gstep (k0_pay4 a j) 1#32 (gstep (k0_pay4 a j) 2#32 (gstep (k0_pay4 a j) 4#32 (gstep (k0_pay4 a j) 8#32 (k0_pay5 a j))))) 255#32 := rfl

theorem pay1_def (a : Vec F S512x1 .f32) (j : S512x1.Idx) :
    k0_pay1 (qm a) (qe a) j = gexpo (k0_pay7 (k0_pay4 a) (k0_pay5 a) (k0_pay6 a) 23#32 j) := rfl

theorem pay2_def (q : IVec S512x1 1) (e : IVec S512x1 32) (j : S512x1.Idx) :
    k0_pay2 (F := F) q e j = gpower (IntOp.addi 127#32 (k0_pay1 q e j)) := rfl

theorem pay3_def (q : IVec S512x1 1) (e : IVec S512x1 32) (v : Vec F S512x8192 .f32) (r : Fin 512) (k : Fin 8192) :
    k0_pay3 q e v (ix2 r k) = gclip (v (ix2 r k)) (gpower (IntOp.subi 127#32 (k0_pay1 q e (ix2 r (0 : Fin 1))))) bitsLt_fp8e4m3_f32 := by
  unfold k0_pay3
  show gclip (v (ix2 r k)) (broadcastTo S512x8192 _ broadcasts_S512x1_S512x8192 (ix2 r k)) bitsLt_fp8e4m3_f32 = _
  refine congrArg (fun s => gclip (v (ix2 r k)) s bitsLt_fp8e4m3_f32) ?_
  exact (spreadCol_apply _ broadcasts_S512x1_S512x8192 r k).trans rfl

end

/-- A block's hidden value at row `r`, column `k`. -/
theorem pay10 (v0 : Vec Ideal S512x8192 .fp8e4m3) (v1 : Vec Ideal S512x1 .f32) (v2 : Vec Ideal S8192x256 .fp8e4m3) (v6 : Vec Ideal S1x256 .f32)
    (v9 : Vec Ideal S8192x256 .fp8e4m3) (v13 : Vec Ideal S1x256 .f32) (r : Fin 512) (k : Fin 256) :
    k0_pay10 v0 v1 v2 v6 v9 v13 (ix2 r k) = hid (dotp (fun i : Fin 8192 => v0 (ix2 r i)) fun i : Fin 8192 => v2 (ix2 i k))
      (dotp (fun i : Fin 8192 => v0 (ix2 r i)) fun i : Fin 8192 => v9 (ix2 i k))
      (v1 (ix2 r (0 : Fin 1))) (v6 (ix2 (0 : Fin 1) k)) (v13 (ix2 (0 : Fin 1) k)) := by
  have e1 : matmul (F := Ideal) (φ₁ := .fp8e4m3) (φ₂ := .fp8e4m3) dot_S512x8192_S8192x256_S512x256_1_0_0_1_n_n none v0 v2 (constant S512x256 .f32 0x00000000#32) (ix2 r k)
      = dotp (fun i : Fin 8192 => v0 (ix2 r i)) fun i : Fin 8192 => v2 (ix2 i k) :=
    Ideal.matmul_plain_apply (M := 512) (K := 8192) (N := 256) none v0 v2 (constant S512x256 .f32 0x00000000#32) r k
  have e2 : matmul (F := Ideal) (φ₁ := .fp8e4m3) (φ₂ := .fp8e4m3) dot_S512x8192_S8192x256_S512x256_1_0_0_1_n_n none v0 v9 (constant S512x256 .f32 0x00000000#32) (ix2 r k)
      = dotp (fun i : Fin 8192 => v0 (ix2 r i)) fun i : Fin 8192 => v9 (ix2 i k) :=
    Ideal.matmul_plain_apply (M := 512) (K := 8192) (N := 256) none v0 v9 (constant S512x256 .f32 0x00000000#32) r k
  rw [pay10_def, e1, e2]
  exact ghid_eq _ _ _ _ _

/-- The row maximum of a block. -/
theorem pay12 (v0 : Vec Ideal S512x8192 .fp8e4m3) (v1 : Vec Ideal S512x1 .f32) (v2 : Vec Ideal S8192x256 .fp8e4m3) (v6 : Vec Ideal S1x256 .f32)
    (v9 : Vec Ideal S8192x256 .fp8e4m3) (v13 : Vec Ideal S1x256 .f32) (r : Fin 512) (z : Fin 1) :
    k0_pay12 v0 v1 v2 v6 v9 v13 (ix2 r z) = rowMax fun k : Fin 256 => k0_pay10 v0 v1 v2 v6 v9 v13 (ix2 r k) :=
  rowMax_apply (k0_pay10 v0 v1 v2 v6 v9 v13) reduces_S512x256_S512 (.inl rfl) rfl shapeCasts_S512_S512x1 r z

theorem pay1 (a : Vec Ideal S512x1 .f32) (j : S512x1.Idx) :
    k0_pay1 (qm a) (qe a) j = expo (a j * Ideal.ofBits .f32 0x3B124925#32) := by
  rw [pay1_def, pay7_def, pay5_def]
  exact (congrArg gexpo (gfield_eq (k0_pay4 a j))).trans (gexpo_eq _)

/-- The scale from a row's maximum. -/
theorem pay2 (a : Vec Ideal S512x1 .f32) (j : S512x1.Idx) :
    k0_pay2 (F := Ideal) (qm a) (qe a) j = rscale (a j * Ideal.ofBits .f32 0x3B124925#32) := by
  rw [pay2_def, pay1, ← scale_eq]
  rfl

/-- The codes from a row's maximum. -/
theorem pay3 (a : Vec Ideal S512x1 .f32) (v : Vec Ideal S512x8192 .f32) (r : Fin 512) (k : Fin 8192) :
    k0_pay3 (F := Ideal) (qm a) (qe a) v (ix2 r k)
      = clip (v (ix2 r k) * rinv (a (ix2 r (0 : Fin 1)) * Ideal.ofBits .f32 0x3B124925#32)) := by
  rw [pay3_def, pay1, ← inv_eq]
  rfl

end Cert.GateValue

end
-- ==== Proof.GateRefPay.lean ====
/- The second call's reference: its two results at an index. -/
module

public import proofs.«01_k».proof.Proof.Hidden
public import proofs.«01_k».proof.Proof.Gen.GateUpReferenceIdeal.Value

@[expose] public section

set_option maxRecDepth 4096

noncomputable section

namespace Cert.GateValue

open Idealize Idealize.ShloMosaic Idealize.ShloMosaic.TcCoe Idealize.SL.Sem Idealize.ShloMosaic.ValueIdx Cert.Quantiser Cert.Rows

open Cert.GateUpReferenceIdeal Cert.GateUpReferenceIdeal.Gen Cert.GateUpReferenceIdeal.Value

/-- Column `k` of the gate half, -/
def lo (k : Fin 8192) : Fin 16384 := ⟨k.val, by omega⟩
/-- and of the up half. -/
def hi (k : Fin 8192) : Fin 16384 := ⟨8192 + k.val, by omega⟩

section

variable {F : FTy → Type} [FloatOps F]

theorem sliceLo (v : FVec F S16384x16384 .f32) (r : Fin 16384) (k : Fin 8192) :
    extractStridedSlice S16384x8192 ![0, 0] v slices_S16384x16384_o0_0_S16384x8192 (ix2 r k) = v (ix2 r (lo k)) :=
  extractStridedSlice_apply _ _ _ _ (ix2 r (lo k)) fun a => match a with
    | ⟨0, _⟩ => by show r.val = 0 + r.val; omega
    | ⟨1, _⟩ => by show k.val = 0 + k.val; omega

theorem sliceHi (v : FVec F S16384x16384 .f32) (r : Fin 16384) (k : Fin 8192) :
    extractStridedSlice S16384x8192 ![0, 8192] v slices_S16384x16384_o0_8192_S16384x8192 (ix2 r k) = v (ix2 r (hi k)) :=
  extractStridedSlice_apply _ _ _ _ (ix2 r (hi k)) fun a => match a with
    | ⟨0, _⟩ => by show r.val = 0 + r.val; omega
    | ⟨1, _⟩ => rfl

/-- The scaled product, all 16384 columns. -/
def yv (v0 : Vec F S16384x8192 .fp8e4m3) (v1 : Vec F S8192x16384 .fp8e4m3) (v3 : Vec F S16384x1 .f32) (v6 : Vec F S1x16384 .f32) :
    FVec F S16384x16384 .f32 :=
  mulf (mulf (matmul (φ₁ := .fp8e4m3) (φ₂ := .fp8e4m3) dot_S16384x8192_S8192x16384_S16384x16384_1_0_0_1_n_n none v0 v1 (constant S16384x16384 .f32 0x00000000#32))
    (broadcastTo S16384x16384 v3 broadcasts_S16384x1_S16384x16384)) (broadcastTo S16384x16384 v6 broadcasts_S1x16384_S16384x16384)

theorem yv_def (v0 : Vec F S16384x8192 .fp8e4m3) (v1 : Vec F S8192x16384 .fp8e4m3) (v3 : Vec F S16384x1 .f32) (v6 : Vec F S1x16384 .f32)
    (r q : Fin 16384) : yv v0 v1 v3 v6 (ix2 r q) = FloatOps.mulf (FloatOps.mulf
      (matmul (φ₁ := .fp8e4m3) (φ₂ := .fp8e4m3) dot_S16384x8192_S8192x16384_S16384x16384_1_0_0_1_n_n none v0 v1 (constant S16384x16384 .f32 0x00000000#32) (ix2 r q))
      (v3 (ix2 r (0 : Fin 1)))) (v6 (ix2 (0 : Fin 1) q)) := by
  have e1 := spreadCol_apply v3 broadcasts_S16384x1_S16384x16384 r q
  have e2 := spreadRow_apply v6 broadcasts_S1x16384_S16384x16384 r q
  rw [← e1, ← e2]
  rfl

theorem rpay2_def (v0 : Vec F S16384x8192 .fp8e4m3) (v1 : Vec F S8192x16384 .fp8e4m3) (v3 : Vec F S16384x1 .f32) (v6 : Vec F S1x16384 .f32)
    (r : Fin 16384) (k : Fin 8192) : k0_pay2 v0 v1 v3 v6 (ix2 r k)
      = FloatOps.mulf (FloatOps.mulf (yv v0 v1 v3 v6 (ix2 r (lo k))) (FloatOps.logistic (yv v0 v1 v3 v6 (ix2 r (lo k))))) (yv v0 v1 v3 v6 (ix2 r (hi k))) := by
  rw [← sliceLo (yv v0 v1 v3 v6) r k, ← sliceHi (yv v0 v1 v3 v6) r k]
  rfl

theorem rpay4_def (v0 : Vec F S16384x8192 .fp8e4m3) (v1 : Vec F S8192x16384 .fp8e4m3) (v3 : Vec F S16384x1 .f32) (v6 : Vec F S1x16384 .f32)
    (j : S16384x1.Idx) : k0_pay4 v0 v1 v3 v6 j = grexpo (FloatOps.mulf (shapeCast S16384x1 (multiReduction .maximumf [1] S16384
      (absf (k0_pay2 v0 v1 v3 v6)) 0xFF800000#32 reduces_S16384x8192_S16384 (.inl rfl) rfl) shapeCasts_S16384_S16384x1 j) (FloatOps.ofBits .f32 0x3B124925#32)) := rfl

theorem rpay5_def (v0 : Vec F S16384x8192 .fp8e4m3) (v1 : Vec F S8192x16384 .fp8e4m3) (v3 : Vec F S16384x1 .f32) (v6 : Vec F S1x16384 .f32)
    (j : S16384x1.Idx) : k0_pay5 v0 v1 v3 v6 j = FloatOps.exp (FloatOps.mulf (k0_pay4 v0 v1 v3 v6 j) glog2) := rfl

theorem rpay1_def (v0 : Vec F S16384x8192 .fp8e4m3) (v1 : Vec F S8192x16384 .fp8e4m3) (v3 : Vec F S16384x1 .f32) (v6 : Vec F S1x16384 .f32)
    (r : Fin 16384) (k : Fin 8192) : k0_pay1 (k0_pay6 v0 v1 v3 v6) (Scalar.ofBits .f32 0xC3E00000#32) (Scalar.ofBits .f32 0x43E00000#32) (ix2 r k)
      = gclip (k0_pay2 v0 v1 v3 v6 (ix2 r k)) (FloatOps.exp (FloatOps.mulf (FloatOps.subf (FloatOps.ofBits .f32 0x00000000#32)
        (k0_pay4 v0 v1 v3 v6 (ix2 r (0 : Fin 1)))) glog2)) bitsLt_fp8e4m3_f32 := by
  unfold k0_pay1 k0_pay6
  show gclip (k0_pay2 v0 v1 v3 v6 (ix2 r k)) (broadcastTo S16384x8192 _ broadcasts_S16384x1_S16384x8192 (ix2 r k)) bitsLt_fp8e4m3_f32 = _
  refine congrArg (fun s => gclip (k0_pay2 v0 v1 v3 v6 (ix2 r k)) s bitsLt_fp8e4m3_f32) ?_
  exact (spreadCol_apply _ broadcasts_S16384x1_S16384x8192 r k).trans rfl

end

/-- The hidden value at row `r`, column `k`. -/
def hval (a0 : Vec Ideal S16384x8192 .fp8e4m3) (a1 : Vec Ideal S16384x1 .f32) (a2 : Vec Ideal S8192x16384 .fp8e4m3) (a3 : Vec Ideal S1x16384 .f32)
    (r : Fin 16384) (k : Fin 8192) : EReal :=
  hid (dotp (fun i : Fin 8192 => a0 (ix2 r i)) fun i : Fin 8192 => a2 (ix2 i (lo k)))
    (dotp (fun i : Fin 8192 => a0 (ix2 r i)) fun i : Fin 8192 => a2 (ix2 i (hi k)))
    (a1 (ix2 r (0 : Fin 1))) (a3 (ix2 (0 : Fin 1) (lo k))) (a3 (ix2 (0 : Fin 1) (hi k)))

theorem rpay2 (a0 : Vec Ideal S16384x8192 .fp8e4m3) (a1 : Vec Ideal S16384x1 .f32) (a2 : Vec Ideal S8192x16384 .fp8e4m3) (a3 : Vec Ideal S1x16384 .f32)
    (r : Fin 16384) (k : Fin 8192) : k0_pay2 a0 a2 a1 a3 (ix2 r k) = hval a0 a1 a2 a3 r k := by
  have e (q : Fin 16384) : matmul (F := Ideal) (φ₁ := .fp8e4m3) (φ₂ := .fp8e4m3) dot_S16384x8192_S8192x16384_S16384x16384_1_0_0_1_n_n none a0 a2 (constant S16384x16384 .f32 0x00000000#32) (ix2 r q)
      = dotp (fun i : Fin 8192 => a0 (ix2 r i)) fun i : Fin 8192 => a2 (ix2 i q) :=
    Ideal.matmul_plain_apply (M := 16384) (K := 8192) (N := 16384) none a0 a2 (constant S16384x16384 .f32 0x00000000#32) r q
  rw [rpay2_def, yv_def, yv_def, e, e]
  exact ghid_eq _ _ _ _ _

theorem rpay4 (a0 : Vec Ideal S16384x8192 .fp8e4m3) (a1 : Vec Ideal S16384x1 .f32) (a2 : Vec Ideal S8192x16384 .fp8e4m3) (a3 : Vec Ideal S1x16384 .f32)
    (r : Fin 16384) (z : Fin 1) : k0_pay4 a0 a2 a1 a3 (ix2 r z) = rexpo (rowT (hval a0 a1 a2 a3 r)) :=
  ((rpay4_def a0 a2 a1 a3 (ix2 r z)).trans
    (congrArg (fun y : EReal => grexpo (F := Ideal) (FloatOps.mulf (F := Ideal) (φ := .f32) y (FloatOps.ofBits .f32 0x3B124925#32)))
      ((rowMax_apply (k0_pay2 a0 a2 a1 a3) reduces_S16384x8192_S16384 (.inl rfl) rfl shapeCasts_S16384_S16384x1 r z).trans
        (congrArg rowMax (funext fun k => rpay2 a0 a1 a2 a3 r k))))).trans (grexpo_eq _)

/-- The reference's scales. -/
theorem G4_apply (a0 : Vec Ideal S16384x8192 .fp8e4m3) (a1 : Vec Ideal S16384x1 .f32) (a2 : Vec Ideal S8192x16384 .fp8e4m3) (a3 : Vec Ideal S1x16384 .f32)
    (r : Fin 16384) (z : Fin 1) : G4 a0 a1 a2 a3 (ix2 r z) = rscale (rowT (hval a0 a1 a2 a3 r)) := by
  unfold G4
  rw [rpay5_def, rpay4]
  rfl

/-- The reference's codes. -/
theorem G5_apply (a0 : Vec Ideal S16384x8192 .fp8e4m3) (a1 : Vec Ideal S16384x1 .f32) (a2 : Vec Ideal S8192x16384 .fp8e4m3) (a3 : Vec Ideal S1x16384 .f32)
    (r : Fin 16384) (k : Fin 8192) : G5 a0 a1 a2 a3 (ix2 r k) = clip (hval a0 a1 a2 a3 r k * rinv (rowT (hval a0 a1 a2 a3 r))) := by
  unfold G5
  rw [rpay1_def, rpay4, rpay2]
  rfl

end Cert.GateValue

end
-- ==== Proof.GateHidden.lean ====
/- The second call's windows: which part of each array a grid point reads or writes, and the hidden values it computes. -/
module

public import proofs.«01_k».proof.Proof.GatePay
public import proofs.«01_k».proof.Proof.GateRefPay

@[expose] public section

set_option maxRecDepth 4096

noncomputable section

namespace Cert.GateValue

open Idealize Idealize.ShloMosaic Idealize.ShloMosaic.TcCoe Idealize.SL.Sem Idealize.ShloMosaic.ValueIdx Cert.Quantiser Cert.Rows

open Cert.GateUpIdeal Cert.GateUpIdeal.Gen Cert.GateUpIdeal.Body

variable (m : (ℓ : Loc nD τ sig) → Buf (Elt Ideal) ℓ) (c : Dev nD)

theorem t_lt (t : Fin cfg0.N) : t.val < 1024 := lt_of_lt_of_eq t.isLt (show cfg0.N = 1024 from N_0)

/-- Row `r` of point `t`'s row block. -/
def row (t : Fin cfg0.N) (r : Fin 512) : Fin 16384 := ⟨t.val / 32 * 512 + r.val, by have := t_lt t; omega⟩
/-- Column `k` of point `t`'s column block. -/
def col (t : Fin cfg0.N) (k : Fin 256) : Fin 8192 := ⟨t.val % 32 * 256 + k.val, by omega⟩

/-! Every window's block index at every point. -/

theorem idx0 : ∀ t : Fin cfg0.N, win0_0.index t (0 : Fin 2) = t.val / 32 ∧ win0_0.index t (1 : Fin 2) = 0 :=
  (by decide +kernel : ∀ t : Fin grid0.N, _)
theorem idx1 : ∀ t : Fin cfg0.N, win0_1.index t (0 : Fin 2) = t.val / 32 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 32 :=
  (by decide +kernel : ∀ t : Fin grid0.N, _)
theorem idx3 : ∀ t : Fin cfg0.N, win0_3.index t (0 : Fin 2) = 0 ∧ win0_3.index t (1 : Fin 2) = t.val % 32 + 32 :=
  (by decide +kernel : ∀ t : Fin grid0.N, _)
theorem idx4 : ∀ t : Fin cfg0.N, win0_4.index t (0 : Fin 2) = 0 ∧ win0_4.index t (1 : Fin 2) = t.val % 32 :=
  (by decide +kernel : ∀ t : Fin grid0.N, _)
theorem idx5 : ∀ t : Fin cfg0.N, win0_5.index t (0 : Fin 2) = 0 ∧ win0_5.index t (1 : Fin 2) = t.val % 32 + 32 :=
  (by decide +kernel : ∀ t : Fin grid0.N, _)
theorem idx6 : ∀ t : Fin cfg0.N, win0_6.index t (0 : Fin 2) = t.val / 32 ∧ win0_6.index t (1 : Fin 2) = 0 :=
  (by decide +kernel : ∀ t : Fin grid0.N, _)
theorem idx7 : ∀ t : Fin cfg0.N, win0_7.index t (0 : Fin 2) = t.val / 32 ∧ win0_7.index t (1 : Fin 2) = 0 :=
  (by decide +kernel : ∀ t : Fin grid0.N, _)

/-! Where a block index lies in its array. -/

theorem emb0 (t : Fin cfg0.N) (r : Fin 512) (i : Fin 8192) : ((cfg0.win 0).blk t).view.emb (ix2 r i) = ix2 (row t r) i := by
  obtain ⟨e0, e1⟩ := idx0 t
  funext a; apply Fin.ext
  match a with
  | ⟨0, _⟩ => show win0_0.index t (0 : Fin 2) * 512 + 1 * r.val = t.val / 32 * 512 + r.val; omega
  | ⟨1, _⟩ => show win0_0.index t (1 : Fin 2) * 8192 + 1 * i.val = i.val; omega

theorem emb1 (t : Fin cfg0.N) (r : Fin 512) (z : Fin 1) : ((cfg0.win 1).blk t).view.emb (ix2 r z) = ix2 (row t r) z := by
  obtain ⟨e0, e1⟩ := idx1 t
  funext a; apply Fin.ext
  match a with
  | ⟨0, _⟩ => show win0_1.index t (0 : Fin 2) * 512 + 1 * r.val = t.val / 32 * 512 + r.val; omega
  | ⟨1, _⟩ => show win0_1.index t (1 : Fin 2) * 1 + 1 * z.val = z.val; omega

theorem emb2 (t : Fin cfg0.N) (i : Fin 8192) (k : Fin 256) : ((cfg0.win 2).blk t).view.emb (ix2 i k) = ix2 i (lo (col t k)) := by
  obtain ⟨e0, e1⟩ := idx2 t
  funext a; apply Fin.ext
  match a with
  | ⟨0, _⟩ => show win0_2.index t (0 : Fin 2) * 8192 + 1 * i.val = i.val; omega
  | ⟨1, _⟩ => show win0_2.index t (1 : Fin 2) * 256 + 1 * k.val = t.val % 32 * 256 + k.val; omega

theorem emb3 (t : Fin cfg0.N) (i : Fin 8192) (k : Fin 256) : ((cfg0.win 3).blk t).view.emb (ix2 i k) = ix2 i (hi (col t k)) := by
  obtain ⟨e0, e1⟩ := idx3 t
  funext a; apply Fin.ext
  match a with
  | ⟨0, _⟩ => show win0_3.index t (0 : Fin 2) * 8192 + 1 * i.val = i.val; omega
  | ⟨1, _⟩ => show win0_3.index t (1 : Fin 2) * 256 + 1 * k.val = 8192 + (t.val % 32 * 256 + k.val); omega

theorem emb4 (t : Fin cfg0.N) (z : Fin 1) (k : Fin 256) : ((cfg0.win 4).blk t).view.emb (ix2 z k) = ix2 z (lo (col t k)) := by
  obtain ⟨e0, e1⟩ := idx4 t
  funext a; apply Fin.ext
  match a with
  | ⟨0, _⟩ => show win0_4.index t (0 : Fin 2) * 1 + 1 * z.val = z.val; omega
  | ⟨1, _⟩ => show win0_4.index t (1 : Fin 2) * 256 + 1 * k.val = t.val % 32 * 256 + k.val; omega

theorem emb5 (t : Fin cfg0.N) (z : Fin 1) (k : Fin 256) : ((cfg0.win 5).blk t).view.emb (ix2 z k) = ix2 z (hi (col t k)) := by
  obtain ⟨e0, e1⟩ := idx5 t
  funext a; apply Fin.ext
  match a with
  | ⟨0, _⟩ => show win0_5.index t (0 : Fin 2) * 1 + 1 * z.val = z.val; omega
  | ⟨1, _⟩ => show win0_5.index t (1 : Fin 2) * 256 + 1 * k.val = 8192 + (t.val % 32 * 256 + k.val); omega

theorem emb6 (t : Fin cfg0.N) (r : Fin 512) (k : Fin 8192) : ((cfg0.win 6).blk t).view.emb (ix2 r k) = ix2 (row t r) k := by
  obtain ⟨e0, e1⟩ := idx6 t
  funext a; apply Fin.ext
  match a with
  | ⟨0, _⟩ => show win0_6.index t (0 : Fin 2) * 512 + 1 * r.val = t.val / 32 * 512 + r.val; omega
  | ⟨1, _⟩ => show win0_6.index t (1 : Fin 2) * 8192 + 1 * k.val = k.val; omega

theorem emb7 (t : Fin cfg0.N) (r : Fin 512) (z : Fin 1) : ((cfg0.win 7).blk t).view.emb (ix2 r z) = ix2 (row t r) z := by
  obtain ⟨e0, e1⟩ := idx7 t
  funext a; apply Fin.ext
  match a with
  | ⟨0, _⟩ => show win0_7.index t (0 : Fin 2) * 512 + 1 * r.val = t.val / 32 * 512 + r.val; omega
  | ⟨1, _⟩ => show win0_7.index t (1 : Fin 2) * 1 + 1 * z.val = z.val; omega

/-! The blocks read, at an index. -/

theorem iblk0_apply (t : Fin cfg0.N) (r : Fin 512) (i : Fin 8192) :
    iblk m c 0 t (ix2 r i) = m ((c : Thread nD τ).loc main_arg0) (ix2 (row t r) i) := by
  have h (X : Vec Ideal S16384x8192 .fp8e4m3) : ((cfg0.win 0).blk t).view.read (Elt Ideal) X (ix2 r i) = X (ix2 (row t r) i) := by
    show X (((cfg0.win 0).blk t).view.emb (ix2 r i)) = _
    rw [emb0]
  exact h (m ((c : Thread nD τ).loc main_arg0))

theorem iblk1_apply (t : Fin cfg0.N) (r : Fin 512) (z : Fin 1) :
    iblk m c 1 t (ix2 r z) = m ((c : Thread nD τ).loc main_arg1) (ix2 (row t r) z) := by
  have h (X : Vec Ideal S16384x1 .f32) : ((cfg0.win 1).blk t).view.read (Elt Ideal) X (ix2 r z) = X (ix2 (row t r) z) := by
    show X (((cfg0.win 1).blk t).view.emb (ix2 r z)) = _
    rw [emb1]
  exact h (m ((c : Thread nD τ).loc main_arg1))

theorem iblk2_apply (t : Fin cfg0.N) (i : Fin 8192) (k : Fin 256) :
    iblk m c 2 t (ix2 i k) = m ((c : Thread nD τ).loc main_arg2) (ix2 i (lo (col t k))) := by
  have h (X : Vec Ideal S8192x16384 .fp8e4m3) : ((cfg0.win 2).blk t).view.read (Elt Ideal) X (ix2 i k) = X (ix2 i (lo (col t k))) := by
    show X (((cfg0.win 2).blk t).view.emb (ix2 i k)) = _
    rw [emb2]
  exact h (m ((c : Thread nD τ).loc main_arg2))

theorem iblk3_apply (t : Fin cfg0.N) (i : Fin 8192) (k : Fin 256) :
    iblk m c 3 t (ix2 i k) = m ((c : Thread nD τ).loc main_arg2) (ix2 i (hi (col t k))) := by
  have h (X : Vec Ideal S8192x16384 .fp8e4m3) : ((cfg0.win 3).blk t).view.read (Elt Ideal) X (ix2 i k) = X (ix2 i (hi (col t k))) := by
    show X (((cfg0.win 3).blk t).view.emb (ix2 i k)) = _
    rw [emb3]
  exact h (m ((c : Thread nD τ).loc main_arg2))

theorem iblk4_apply (t : Fin cfg0.N) (z : Fin 1) (k : Fin 256) :
    iblk m c 4 t (ix2 z k) = m ((c : Thread nD τ).loc main_arg3) (ix2 z (lo (col t k))) := by
  have h (X : Vec Ideal S1x16384 .f32) : ((cfg0.win 4).blk t).view.read (Elt Ideal) X (ix2 z k) = X (ix2 z (lo (col t k))) := by
    show X (((cfg0.win 4).blk t).view.emb (ix2 z k)) = _
    rw [emb4]
  exact h (m ((c : Thread nD τ).loc main_arg3))

theorem iblk5_apply (t : Fin cfg0.N) (z : Fin 1) (k : Fin 256) :
    iblk m c 5 t (ix2 z k) = m ((c : Thread nD τ).loc main_arg3) (ix2 z (hi (col t k))) := by
  have h (X : Vec Ideal S1x16384 .f32) : ((cfg0.win 5).blk t).view.read (Elt Ideal) X (ix2 z k) = X (ix2 z (hi (col t k))) := by
    show X (((cfg0.win 5).blk t).view.emb (ix2 z k)) = _
    rw [emb5]
  exact h (m ((c : Thread nD τ).loc main_arg3))

/-- The hidden values as a function of the launch memory's four arguments. -/
def hv (r : Fin 16384) (k : Fin 8192) : EReal :=
  hval (m ((c : Thread nD τ).loc main_arg0)) (m ((c : Thread nD τ).loc main_arg1)) (m ((c : Thread nD τ).loc main_arg2)) (m ((c : Thread nD τ).loc main_arg3)) r k

/-- The block computed at point `t` holds the hidden values of its rows and columns. -/
theorem hblk_apply (t : Fin cfg0.N) (r : Fin 512) (k : Fin 256) : hblk m c t (ix2 r k) = hv m c (row t r) (col t k) := by
  unfold hblk
  rw [pay11_eq, pay10]
  simp only [iblk0_apply, iblk1_apply, iblk2_apply, iblk3_apply, iblk4_apply, iblk5_apply]
  rfl

/-- The row block gathered over a row block's 32 points holds the hidden values of its rows. -/
theorem hrow_apply (t : Fin cfg0.N) (r : Fin 512) (k : Fin 8192) : hrow m c (t.val / 32) (ix2 r k) = hv m c (row t r) k := by
  have ht := t_lt t
  have h := hblk_apply m c (Body.pt (32 * (t.val / 32) + k.val / 256)) r ⟨k.val % 256, Nat.mod_lt _ (by omega)⟩
  have e1 : row (Body.pt (32 * (t.val / 32) + k.val / 256)) r = row t r :=
    Fin.ext (by show (32 * (t.val / 32) + k.val / 256) % 1024 / 32 * 512 + r.val = t.val / 32 * 512 + r.val; omega)
  have e2 : col (Body.pt (32 * (t.val / 32) + k.val / 256)) ⟨k.val % 256, Nat.mod_lt _ (by omega)⟩ = k :=
    Fin.ext (by show (32 * (t.val / 32) + k.val / 256) % 1024 % 32 * 256 + k.val % 256 = k.val; omega)
  rw [e1, e2] at h
  exact h

/-- The row maximum of the block computed at point `t` is at most `y` when every absolute value of the block's row is. -/
theorem blockMax_le (t : Fin cfg0.N) (r : Fin 512) (z : Fin 1) (y : EReal) :
    k0_pay12 (F := Ideal) (iblk m c 0 t) (iblk m c 1 t) (iblk m c 2 t) (iblk m c 4 t) (iblk m c 3 t) (iblk m c 5 t) (ix2 r z) ≤ y
      ↔ ∀ k : Fin 256, max (hv m c (row t r) (col t k)) (-(hv m c (row t r) (col t k))) ≤ y := by
  rw [pay12, rowMax_le]
  refine forall_congr' fun k => ?_
  have h := hblk_apply m c t r k
  unfold hblk at h
  rw [pay11_eq] at h
  rw [h]

/-- The running maximum after point `n` bounds the absolute values of the columns so far, and is the least such bound. -/
theorem amax_le (r : Fin 512) (z : Fin 1) (y : EReal) : ∀ (n : ℕ) (hn : n < cfg0.N), amaxAt m c n (ix2 r z) ≤ y
    ↔ ∀ k : Fin 8192, k.val < 256 * (n % 32 + 1) → max (hv m c (row ⟨n, hn⟩ r) k) (-(hv m c (row ⟨n, hn⟩ r) k)) ≤ y := by
  have split (n : ℕ) (hn : n < cfg0.N) (P : Fin 8192 → Prop) :
      (∀ k : Fin 8192, k.val < 256 * (n % 32 + 1) → P k) ↔ (∀ k : Fin 8192, k.val < 256 * (n % 32) → P k) ∧ ∀ k : Fin 256, P (col ⟨n, hn⟩ k) := by
    constructor
    · exact fun h => ⟨fun k hk => h k (by omega), fun k => h _ (by show n % 32 * 256 + k.val < _; omega)⟩
    · rintro ⟨h1, h2⟩ k hk
      by_cases hl : k.val < 256 * (n % 32)
      · exact h1 k hl
      · have e : col ⟨n, hn⟩ ⟨k.val - 256 * (n % 32), by omega⟩ = k := Fin.ext (by show n % 32 * 256 + (k.val - 256 * (n % 32)) = k.val; omega)
        exact e ▸ h2 _
  intro n
  induction n with
  | zero =>
    intro hn
    rw [split 0 hn]
    have h := amaxAt_first m c ⟨0, hn⟩ rfl
    rw [show amaxAt m c 0 = _ from h, pay13_eq, blockMax_le]
    exact ⟨fun h => ⟨fun k hk => absurd hk (by omega), h⟩, fun h => h.2⟩
  | succ n ih =>
    intro hn
    rw [split (n + 1) hn]
    by_cases h0 : (n + 1) % 32 = 0
    · have h := amaxAt_first m c ⟨n + 1, hn⟩ h0
      rw [show amaxAt m c (n + 1) = _ from h, pay13_eq, blockMax_le]
      exact ⟨fun h => ⟨fun k hk => absurd hk (by omega), h⟩, fun h => h.2⟩
    · have h := amaxAt_next m c ⟨n + 1, hn⟩ h0
      have hmax (a b : Vec Ideal S512x1 .f32) : (maximumf (F := Ideal) (φ := .f32) a b (ix2 r z) : EReal) ≤ y ↔ (a (ix2 r z) : EReal) ≤ y ∧ (b (ix2 r z) : EReal) ≤ y :=
        max_le_iff (α := EReal) (a := a (ix2 r z)) (b := b (ix2 r z)) (c := y)
      rw [show amaxAt m c (n + 1) = _ from h, pay14_eq, hmax, blockMax_le]
      have e : row ⟨n, by omega⟩ r = row ⟨n + 1, hn⟩ r :=
        Fin.ext (by show n / 32 * 512 + r.val = (n + 1) / 32 * 512 + r.val; omega)
      have e' : n % 32 + 1 = (n + 1) % 32 := by omega
      have := ih (by omega)
      rw [e, e'] at this
      exact and_congr_left fun _ => this

/-- After a row block's last point the running maximum is the row's largest absolute hidden value. -/
theorem amax_last (t : Fin cfg0.N) (h : t.val % 32 = 31) (r : Fin 512) (z : Fin 1) :
    amaxAt m c t.val (ix2 r z) = rowMax (hv m c (row t r)) := by
  refine eq_of_forall_ge_iff fun y => ?_
  rw [amax_le m c r z y t.val t.isLt, rowMax_le, h]
  exact ⟨fun h k => h k (by omega), fun h k _ => h k⟩

end Cert.GateValue

end
-- ==== Proof.GateValue.lean ====
/- The second call's two results: the kernel's arrays and the reference's are the same functions of the arguments. -/
module

public import proofs.«01_k».proof.Proof.GateHidden

@[expose] public section

set_option maxRecDepth 4096

noncomputable section

namespace Cert.GateValue

open Idealize Idealize.ShloMosaic Idealize.ShloMosaic.TcCoe Idealize.SL.Sem Idealize.ShloMosaic.ValueIdx Cert.Quantiser Cert.Rows

open Cert.GateUpIdeal Cert.GateUpIdeal.Gen Cert.GateUpIdeal.Body

variable (m : (ℓ : Loc nD τ sig) → Buf (Elt Ideal) ℓ) (c : Dev nD)

/-- The last point of the row block that holds row `r`, -/
def last (r : Fin 16384) : Fin cfg0.N :=
  ⟨r.val / 512 * 32 + 31, lt_of_lt_of_eq (by omega : r.val / 512 * 32 + 31 < 1024) (show 1024 = cfg0.N from N_0.symm)⟩
/-- and the row's place in the row block. -/
def lane (r : Fin 16384) : Fin 512 := ⟨r.val % 512, Nat.mod_lt _ (by omega)⟩
theorem last_mod (r : Fin 16384) : (last r).val % 32 = 31 := by
  show (r.val / 512 * 32 + 31) % 32 = 31; omega
theorem row_last (r : Fin 16384) : row (last r) (lane r) = r :=
  Fin.ext (by show (r.val / 512 * 32 + 31) / 32 * 512 + r.val % 512 = r.val; omega)

/-- The codes written at a row block's last point. -/
theorem outCodes_apply (t : Fin cfg0.N) (h : t.val % 32 = 31) (r : Fin 512) (k : Fin 8192) :
    outCodes m c t.val (ix2 r k) = clip (hv m c (row t r) k * rinv (rowT (hv m c (row t r)))) := by
  unfold outCodes
  rw [pay3, hrow_apply, amax_last m c t h]
  rfl

/-- The scales written at a row block's last point. -/
theorem outScale_apply (t : Fin cfg0.N) (h : t.val % 32 = 31) (r : Fin 512) (z : Fin 1) :
    outScale m c t.val (ix2 r z) = rscale (rowT (hv m c (row t r))) := by
  unfold outScale
  rw [pay2, amax_last m c t h]
  rfl

/-- A block that is `G` at its rows of the array is what is written back of `G`. -/
theorem block6 (t : Fin cfg0.N) (X : Vec Ideal S512x8192 .fp8e4m3) (G : Vec Ideal S16384x8192 .fp8e4m3)
    (h : ∀ (r : Fin 512) (k : Fin 8192), X (ix2 r k) = G (ix2 (row t r) k)) :
    (cfg0.win 6).cut (grid0.coords t) X = ((cfg0.win 6).blk t).view.read (Elt Ideal) G := by
  funext j
  show X j = G (((cfg0.win 6).blk t).view.emb j)
  obtain ⟨r, k, rfl⟩ : ∃ (r : Fin 512) (k : Fin 8192), j = ix2 r k := ⟨j 0, j 1, eq_ix2 j⟩
  exact (h r k).trans (congrArg G (emb6 t r k).symm)

/-- A block that is `G` at its rows of the array is what is written back of `G`. -/
theorem block7 (t : Fin cfg0.N) (X : Vec Ideal S512x1 .f32) (G : Vec Ideal S16384x1 .f32)
    (h : ∀ (r : Fin 512) (z : Fin 1), X (ix2 r z) = G (ix2 (row t r) z)) :
    (cfg0.win 7).cut (grid0.coords t) X = ((cfg0.win 7).blk t).view.read (Elt Ideal) G := by
  funext j
  show X j = G (((cfg0.win 7).blk t).view.emb j)
  obtain ⟨r, z, rfl⟩ : ∃ (r : Fin 512) (z : Fin 1), j = ix2 r z := ⟨j 0, j 1, eq_ix2 j⟩
  exact (h r z).trans (congrArg G (emb7 t r z).symm)

/-- The codes array after the run is the reference's function of the arguments. -/
theorem codes_eq : (dats m 0 c).arrAt 6 cfg0.N = Cert.GateUpReferenceIdeal.Value.G5 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_cover 6 (Cert.GateUpReferenceIdeal.Value.G5 (F := Ideal) (m ((c : Thread nD τ).loc main_arg0))
    (m ((c : Thread nD τ).loc main_arg1)) (m ((c : Thread nD τ).loc main_arg2)) (m ((c : Thread nD τ).loc main_arg3))) (fun t ht => ?_) fun i => ?_
  · have e : (dats m 0 c).flushed 6 t = (cfg0.win 6).cut (grid0.coords t) (outCodes m c t.val) := by
      show (cfg0.win 6).cut (grid0.coords t) ((dats m 0 c).after 6 t) = _
      rw [after0_6]
    refine e.trans (block6 t _ _ fun r k => ?_)
    rw [outCodes_apply m c t ((flush0_6 t).mp ht), G5_apply]
    rfl
  · obtain ⟨r, k, rfl⟩ : ∃ (r : Fin 16384) (k : Fin 8192), i = ix2 r k := ⟨i 0, i 1, eq_ix2 i⟩
    refine ⟨last r, (flush0_6 _).mpr (last_mod r), ?_⟩
    have e : ((cfg0.win 6).blk (last r)).view.emb (ix2 (lane r) k) = ix2 r k := by rw [emb6, row_last]
    rw [← e]
    exact ((cfg0.win 6).blk (last r)).view.emb_mem_set _

/-- The scale array after the run is the reference's function of the arguments. -/
theorem scale_eq : (dats m 0 c).arrAt 7 cfg0.N = Cert.GateUpReferenceIdeal.Value.G4 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_cover 7 (Cert.GateUpReferenceIdeal.Value.G4 (F := Ideal) (m ((c : Thread nD τ).loc main_arg0))
    (m ((c : Thread nD τ).loc main_arg1)) (m ((c : Thread nD τ).loc main_arg2)) (m ((c : Thread nD τ).loc main_arg3))) (fun t ht => ?_) fun i => ?_
  · have e : (dats m 0 c).flushed 7 t = (cfg0.win 7).cut (grid0.coords t) (outScale m c t.val) := by
      show (cfg0.win 7).cut (grid0.coords t) ((dats m 0 c).after 7 t) = _
      rw [after0_7]
    refine e.trans (block7 t _ _ fun r z => ?_)
    rw [outScale_apply m c t ((flush0_7 t).mp ht), G4_apply]
    rfl
  · obtain ⟨r, z, rfl⟩ : ∃ (r : Fin 16384) (z : Fin 1), i = ix2 r z := ⟨i 0, i 1, eq_ix2 i⟩
    refine ⟨last r, (flush0_7 _).mpr (last_mod r), ?_⟩
    have e : ((cfg0.win 7).blk (last r)).view.emb (ix2 (lane r) z) = ix2 r z := by rw [emb7, row_last]
    rw [← e]
    exact ((cfg0.win 7).blk (last r)).view.emb_mem_set _

end Cert.GateValue

end
-- ==== Proof.lean ====
module

public import proofs.«01_k».proof.Defs
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantIdeal.Value
public import proofs.«01_k».proof.Proof.Gen.QuantReferenceIdeal
public import proofs.«01_k».proof.Proof.Gen.QuantReferenceIdeal.Skeleton
public import proofs.«01_k».proof.Proof.Gen.QuantReferenceIdeal.Launch
public import proofs.«01_k».proof.Proof.Gen.QuantReferenceIdeal.Points
public import proofs.«01_k».proof.Proof.Gen.QuantReferenceIdeal.Frame
public import proofs.«01_k».proof.Proof.Gen.QuantReferenceIdeal.Value
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpReferenceIdeal
public import proofs.«01_k».proof.Proof.Gen.GateUpReferenceIdeal.Skeleton
public import proofs.«01_k».proof.Proof.Gen.GateUpReferenceIdeal.Launch
public import proofs.«01_k».proof.Proof.Gen.GateUpReferenceIdeal.Points
public import proofs.«01_k».proof.Proof.Gen.GateUpReferenceIdeal.Frame
public import proofs.«01_k».proof.Proof.Gen.GateUpReferenceIdeal.Value
public import proofs.«01_k».proof.Proof.QuantValue
public import proofs.«01_k».proof.Proof.GateBody
public import proofs.«01_k».proof.Proof.GateFrame
public import proofs.«01_k».proof.Proof.GateValue
public import Idealize.ShloMosaic.Adequacy
public import Idealize.ShloMosaic.Init

@[expose] public section

noncomputable section

namespace Cert.Proof

open Idealize.ShloMosaic Idealize.SL.Sem Cert.Quant

/-- The first call: kernel and reference end with the same codes and scales. -/
theorem algebraicQuant [Cert.QuantIdeal.Facts] [Cert.QuantReferenceIdeal.Facts] : Cert.algebraic_QuantIdeal_QuantReferenceIdeal := by
  intro m g m' g' _ hm
  refine ⟨fun c => Cert.QuantReferenceIdeal.Value.G1 (F := Ideal) (m ((c.tc : Thread Cert.QuantIdeal.nD Cert.QuantIdeal.τ).loc Cert.QuantIdeal.main_arg0)),
    fun c => Cert.QuantReferenceIdeal.Value.G2 (F := Ideal) (m ((c.tc : Thread Cert.QuantIdeal.nD Cert.QuantIdeal.τ).loc Cert.QuantIdeal.main_arg0)), ?_, ?_⟩
  · refine (θ_run _ _ _).mono (fun r h c => ?_) (Cert.QuantIdeal.Value.run_blocks m g)
    obtain ⟨h0, h1, ha⟩ := h c
    exact ⟨h0.trans (Cert.QuantValue.codes_eq m c), h1.trans (Cert.QuantValue.scale_eq m c), ha⟩
  · refine (θ_run _ _ _).mono (fun r h c => ?_) (Cert.QuantReferenceIdeal.Value.run m' g')
    obtain ⟨h0, h1, ha⟩ := h c
    rw [hm c] at h0 h1
    exact ⟨h0, h1, ha⟩

/-- The second call: kernel and reference end with the same scales and codes of the hidden activation. -/
theorem algebraicGateUp [Cert.GateUpIdeal.Facts] [Cert.GateUpReferenceIdeal.Facts] : Cert.algebraic_GateUpIdeal_GateUpReferenceIdeal := by
  intro m g m' g' _ hm
  refine ⟨fun c => Cert.GateUpReferenceIdeal.Value.G4 (F := Ideal) (m ((c.tc : Thread Cert.GateUpIdeal.nD Cert.GateUpIdeal.τ).loc Cert.GateUpIdeal.main_arg0))
      (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2))
      (m ((c.tc : Thread Cert.GateUpIdeal.nD Cert.GateUpIdeal.τ).loc Cert.GateUpIdeal.main_arg3)),
    fun c => Cert.GateUpReferenceIdeal.Value.G5 (F := Ideal) (m ((c.tc : Thread Cert.GateUpIdeal.nD Cert.GateUpIdeal.τ).loc Cert.GateUpIdeal.main_arg0))
      (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2))
      (m ((c.tc : Thread Cert.GateUpIdeal.nD Cert.GateUpIdeal.τ).loc Cert.GateUpIdeal.main_arg3)), ?_, ?_⟩
  · refine (θ_run _ _ _).mono (fun r h c => ?_) (θ_run_and (Cert.GateUpIdeal.Body.run_main m g) (Cert.GateUpIdeal.Body.frame m g))
    obtain ⟨h, hf, -⟩ := h
    exact ⟨((h c).1 7).trans (Cert.GateValue.scale_eq m c), ((h c).1 6).trans (Cert.GateValue.codes_eq m c), hf c⟩
  · refine (θ_run _ _ _).mono (fun r h c => ?_) (Cert.GateUpReferenceIdeal.Value.run m' g')
    obtain ⟨h0, h1, ha⟩ := h c
    obtain ⟨e0, e1, e2, e3⟩ := hm c
    rw [e0, e1, e2, e3] at h0 h1
    exact ⟨h0, h1, ha⟩

/-- All ten claims: both calls' kernels, their readings over the extended reals and the references run and leave their
    arguments unchanged, and over the extended reals each kernel and its reference end with equal results. -/
theorem claim : Cert.Claim := ⟨Cert.Quant.Gen.facts, Cert.QuantIdeal.Gen.facts, Cert.QuantReferenceIdeal.Gen.facts, Cert.GateUp.Gen.facts, Cert.GateUpIdeal.Gen.facts, Cert.GateUpReferenceIdeal.Gen.facts,
  fun m g _ => Cert.Quant.Gen.frame m g,
  fun m g _ => Cert.QuantIdeal.Gen.frame m g,
  fun m g _ => Cert.QuantReferenceIdeal.Gen.frame m g,
  Cert.GateFrame.frame,
  fun m g _ => Cert.GateUpIdeal.Body.frame m g,
  fun m g _ => Cert.GateUpReferenceIdeal.Gen.frame m g,
  trivial,
  algebraicQuant,
  trivial,
  algebraicGateUp⟩

end Cert.Proof

end
